-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonneg [hPre_scales_nonneg : Cert.Pre_scales_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonneg [hPre_scales_nonneg : Cert.Pre_scales_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scales_nonneg [hKernelIdeal : Cert.KernelIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scales_nonneg [hReferenceIdeal : Cert.ReferenceIdeal.Facts] [hPre_scales_nonneg : Cert.Pre_scales_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_scales_nonneg [hKernelIdeal : Cert.KernelIdeal.Facts] [hReferenceIdeal : Cert.ReferenceIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v53_2)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v53_2) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63_0) = v0 c
          ∧ r.2.mem ((c.tc : Thread Cert.ReferenceIdeal.nD Cert.ReferenceIdeal.τ).loc Cert.ReferenceIdeal.main_v63_1) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v63_2) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scales_nonneg : Cert.Pre_scales_nonneg.Facts),
    quiescent_Kernel (hKernel := hKernel)
    ∧ quiescent_KernelIdeal (hKernelIdeal := hKernelIdeal)
    ∧ quiescent_KernelIdeal_pre_scales_nonneg (hKernelIdeal := hKernelIdeal) (hPre_scales_nonneg := hPre_scales_nonneg)
    ∧ quiescent_ReferenceIdeal (hReferenceIdeal := hReferenceIdeal)
    ∧ quiescent_ReferenceIdeal_pre_scales_nonneg (hReferenceIdeal := hReferenceIdeal) (hPre_scales_nonneg := hPre_scales_nonneg)
    ∧ preserves_Kernel_KernelIdeal
    ∧ algebraic_KernelIdeal_ReferenceIdeal_pre_scales_nonneg (hKernelIdeal := hKernelIdeal) (hReferenceIdeal := hReferenceIdeal) (hPre_scales_nonneg := hPre_scales_nonneg)
-- ==== Pre_scales_nonneg.lean ====
abbrev S64x1x8192 : Shape := ⟨3, ![64, 1, 8192]⟩
abbrev S64x1x4x128 : Shape := ⟨4, ![64, 1, 4, 128]⟩
abbrev S64x8192x4x128 : Shape := ⟨4, ![64, 8192, 4, 128]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S64x1x8192 .bf16) (main_arg1 : FVec F S64x1x4x128 .bf16) (main_arg2 : FVec F S64x1x4x128 .bf16) (main_arg3 : FVec F S64x8192x4x128 .fp8e4m3) (main_arg4 : FVec F S4 .f32) (main_arg5 : FVec F S64x8192x4x128 .fp8e4m3) (main_arg6 : FVec F S4 .f32) : IVec S_ 1 :=
  let main_cst : FVec F S_ .f32 := constant S_ .f32 0x00000000#32
  let main_v0 : FVec F S4 .f32 := broadcastInDim S4 ![] bcast_S_S4 main_cst
  let main_v1 : IVec S4 1 := cmpf .oge main_arg4 main_v0
  let main_cst_0 : FVec F S_ .f32 := constant S_ .f32 0x7F800000#32
  let main_v2 : FVec F S4 .f32 := broadcastInDim S4 ![] bcast_S_S4 main_cst_0
  let main_v3 : IVec S4 1 := cmpf .olt main_arg4 main_v2
  let main_v4 : IVec S4 1 := andi main_v1 main_v3
  let main_c : IVec S_ 1 := constantI S_ 1 1#1
  let main_v5 : IVec S_ 1 := (fun x v => Host.reduce IntOp.andi x v reducesTo_S4_S_d0 h_S_) main_v4 main_c
  let main_cst_1 : FVec F S_ .f32 := constant S_ .f32 0x00000000#32
  let main_v6 : FVec F S4 .f32 := broadcastInDim S4 ![] bcast_S_S4 main_cst_1
  let main_v7 : IVec S4 1 := cmpf .oge main_arg6 main_v6
  let main_cst_2 : FVec F S_ .f32 := constant S_ .f32 0x7F800000#32
  let main_v8 : FVec F S4 .f32 := broadcastInDim S4 ![] bcast_S_S4 main_cst_2
  let main_v9 : IVec S4 1 := cmpf .olt main_arg6 main_v8
  let main_v10 : IVec S4 1 := andi main_v7 main_v9
  let main_c_3 : IVec S_ 1 := constantI S_ 1 1#1
  let main_v11 : IVec S_ 1 := (fun x v => Host.reduce IntOp.andi x v reducesTo_S4_S_d0 h_S_) main_v10 main_c_3
  let main_v12 : IVec S_ 1 := andi main_v5 main_v11
  main_v12
-- ==== Kernel.lean ====
abbrev S64x1x8192 : Shape := ⟨3, ![64, 1, 8192]⟩
abbrev S64x1x4x128 : Shape := ⟨4, ![64, 1, 4, 128]⟩
abbrev S64x8192x4x128 : Shape := ⟨4, ![64, 8192, 4, 128]⟩
abbrev S4 : Shape := ⟨1, ![4]⟩
abbrev S255 : Shape := ⟨1, ![255]⟩
abbrev S1x255 : Shape := ⟨2, ![1, 255]⟩
abbrev S64x64x128 : Shape := ⟨3, ![64, 64, 128]⟩
abbrev S64x32768x128 : Shape := ⟨3, ![64, 32768, 128]⟩
abbrev S64x4x128 : Shape := ⟨3, ![64, 4, 128]⟩
abbrev S_ : Shape := ⟨0, ![]⟩
abbrev S1x4 : Shape := ⟨2, ![1, 4]⟩
abbrev S64x4 : Shape := ⟨2, ![64, 4]⟩
abbrev S256 : Shape := ⟨1, ![256]⟩
abbrev S1x256 : Shape := ⟨2, ![1, 256]⟩
abbrev S8x256 : Shape := ⟨2, ![8, 256]⟩
abbrev S4x1 : Shape := ⟨2, ![4, 1]⟩
abbrev S4x255 : Shape := ⟨2, ![4, 255]⟩
abbrev S4x4 : Shape := ⟨2, ![4, 4]⟩
abbrev S4x128 : Shape := ⟨2, ![4, 128]⟩
abbrev S1x64x128 : Shape := ⟨3, ![1, 64, 128]⟩
abbrev S1x4x128 : Shape := ⟨3, ![1, 4, 128]⟩
abbrev S1x32768x128 : Shape := ⟨3, ![1, 32768, 128]⟩
abbrev S16x32768 : Shape := ⟨2, ![16, 32768]⟩
abbrev S64x128 : Shape := ⟨2, ![64, 128]⟩
abbrev S64x256 : Shape := ⟨2, ![64, 256]⟩
abbrev S128x256 : Shape := ⟨2, ![128, 256]⟩
abbrev S16x256 : Shape := ⟨2, ![16, 256]⟩
abbrev S1x256x128 : Shape := ⟨3, ![1, 256, 128]⟩
abbrev S256x128 : Shape := ⟨2, ![256, 128]⟩
abbrev S256x256 : Shape := ⟨2, ![256, 256]⟩
abbrev S16x128 : Shape := ⟨2, ![16, 128]⟩
abbrev S16x1 : Shape := ⟨2, ![16, 1]⟩
abbrev S64x1 : Shape := ⟨2, ![64, 1]⟩
abbrev S16 : Shape := ⟨1, ![16]⟩
abbrev S1x128 : Shape := ⟨2, ![1, 128]⟩
abbrev S1x1 : Shape := ⟨2, ![1, 1]⟩
abbrev S64 : Shape := ⟨1, ![64]⟩

abbrev nBuf : Space → Nat
  | .hbm => 89
  | .vmem => 19
  | .smem => 0
  | _ => 0

abbrev bufTy : (tb : Table) → Fin (tcTables nBuf tb) → BufTy
  | .hbm, ⟨0, _⟩ => ⟨S64x1x8192, .bf16⟩
  | .hbm, ⟨1, _⟩ => ⟨S64x1x4x128, .bf16⟩
  | .hbm, ⟨2, _⟩ => ⟨S64x1x4x128, .bf16⟩
  | .hbm, ⟨3, _⟩ => ⟨S64x8192x4x128, .fp8e4m3⟩
  | .hbm, ⟨4, _⟩ => ⟨S4, .f32⟩
  | .hbm, ⟨5, _⟩ => ⟨S64x8192x4x128, .fp8e4m3⟩
  | .hbm, ⟨6, _⟩ => ⟨S4, .f32⟩
  | .hbm, ⟨7, _⟩ => ⟨S255, .f32⟩
  | .hbm, ⟨8, _⟩ => ⟨S1x255, .f32⟩
  | .hbm, ⟨9, _⟩ => ⟨S64x64x128, .bf16⟩
  | .hbm, ⟨10, _⟩ => ⟨S64x32768x128, .fp8e4m3⟩
  | .hbm, ⟨11, _⟩ => ⟨S64x32768x128, .fp8e4m3⟩
  | .hbm, ⟨12, _⟩ => ⟨S64x4x128, .bf16⟩
  | .hbm, ⟨13, _⟩ => ⟨S64x4x128, .bf16⟩
  | .hbm, ⟨14, _⟩ => ⟨S4, .bf16⟩
  | .hbm, ⟨15, _⟩ => ⟨S4, .f32⟩
  | .hbm, ⟨16, _⟩ => ⟨S4, .bf16⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S1x4, .f32⟩
  | .hbm, ⟨22, _⟩ => ⟨S64x4, .f32⟩
  | .hbm, ⟨23, _⟩ => ⟨S256, .f32⟩
  | .hbm, ⟨24, _⟩ => ⟨S1x256, .f32⟩
  | .hbm, ⟨25, _⟩ => ⟨S8x256, .f32⟩
  | .hbm, ⟨26, _⟩ => ⟨S4, .f32⟩
  | .hbm, ⟨27, _⟩ => ⟨S4x1, .f32⟩
  | .hbm, ⟨28, _⟩ => ⟨S4x255, .f32⟩
  | .hbm, ⟨29, _⟩ => ⟨S4x255, .f32⟩
  | .hbm, ⟨30, _⟩ => ⟨S4x255, .i1⟩
  | .hbm, ⟨31, _⟩ => ⟨S_, .f32⟩
  | .hbm, ⟨32, _⟩ => ⟨S_, .f32⟩
  | .hbm, ⟨33, _⟩ => ⟨S4x255, .f32⟩
  | .hbm, ⟨34, _⟩ => ⟨S4x255, .f32⟩
  | .hbm, ⟨35, _⟩ => ⟨S4x255, .f32⟩
  | .hbm, ⟨36, _⟩ => ⟨S_, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .i1⟩
  | .hbm, ⟨41, _⟩ => ⟨S_, .f32⟩
  | .hbm, ⟨42, _⟩ => ⟨S4, .f32⟩
  | .hbm, ⟨43, _⟩ => ⟨S4, .i1⟩
  | .hbm, ⟨44, _⟩ => ⟨S4, .i1⟩
  | .hbm, ⟨45, _⟩ => ⟨S_, .f32⟩
  | .hbm, ⟨46, _⟩ => ⟨S4, .f32⟩
  | .hbm, ⟨47, _⟩ => ⟨S4, .f32⟩
  | .hbm, ⟨48, _⟩ => ⟨S_, .f32⟩
  | .hbm, ⟨49, _⟩ => ⟨S_, .f32⟩
  | .hbm, ⟨50, _⟩ => ⟨S4, .f32⟩
  | .hbm, ⟨51, _⟩ => ⟨S4, .f32⟩
  | .hbm, ⟨52, _⟩ => ⟨S4, .f32⟩
  | .hbm, ⟨53, _⟩ => ⟨S4x1, .f32⟩
  | .hbm, ⟨54, _⟩ => ⟨S4x255, .f32⟩
  | .hbm, ⟨55, _⟩ => ⟨S4x255, .f32⟩
  | .hbm, ⟨56, _⟩ => ⟨S4x255, .i1⟩
  | .hbm, ⟨57, _⟩ => ⟨S_, .f32⟩
  | .hbm, ⟨58, _⟩ => ⟨S_, .f32⟩
  | .hbm, ⟨59, _⟩ => ⟨S4x255, .f32⟩
  | .hbm, ⟨60, _⟩ => ⟨S4x255, .f32⟩
  | .hbm, ⟨61, _⟩ => ⟨S4x255, .f32⟩
  | .hbm, ⟨62, _⟩ => ⟨S_, .f32⟩
  | .hbm, ⟨63, _⟩ => ⟨S4, .f32⟩
  | .hbm, ⟨64, _⟩ => ⟨S_, .f32⟩
  | .hbm, ⟨65, _⟩ => ⟨S4, .f32⟩
  | .hbm, ⟨66, _⟩ => ⟨S4, .i1⟩
  | .hbm, ⟨67, _⟩ => ⟨S_, .f32⟩
  | .hbm, ⟨68, _⟩ => ⟨S4, .f32⟩
  | .hbm, ⟨69, _⟩ => ⟨S4, .i1⟩
  | .hbm, ⟨70, _⟩ => ⟨S4, .i1⟩
  | .hbm, ⟨71, _⟩ => ⟨S_, .f32⟩
  | .hbm, ⟨72, _⟩ => ⟨S4, .f32⟩
  | .hbm, ⟨73, _⟩ => ⟨S4, .f32⟩
  | .hbm, ⟨74, _⟩ => ⟨S_, .f32⟩
  | .hbm, ⟨75, _⟩ => ⟨S_, .f32⟩
  | .hbm, ⟨76, _⟩ => ⟨S4, .f32⟩
  | .hbm, ⟨77, _⟩ => ⟨S4, .f32⟩
  | .hbm, ⟨78, _⟩ => ⟨S4x1, .f32⟩
  | .hbm, ⟨79, _⟩ => ⟨S4x1, .f32⟩
  | .hbm, ⟨80, _⟩ => ⟨S4x1, .f32⟩
  | .hbm, ⟨81, _⟩ => ⟨S4x1, .f32⟩
  | .hbm, ⟨82, _⟩ => ⟨S4x4, .f32⟩
  | .hbm, ⟨83, _⟩ => ⟨S_, .i32⟩
  | .hbm, ⟨84, _⟩ => ⟨S_, .f32⟩
  | .hbm, ⟨85, _⟩ => ⟨S4x128, .f32⟩
  | .hbm, ⟨86, _⟩ => ⟨S64x64x128, .bf16⟩
  | .hbm, ⟨87, _⟩ => ⟨S64x4x128, .fp8e4m3⟩
  | .hbm, ⟨88, _⟩ => ⟨S64x4x128, .fp8e4m3⟩
  | .local _ .vmem, ⟨0, _⟩ => ⟨S1x64x128, .bf16⟩
  | .local _ .vmem, ⟨1, _⟩ => ⟨S1x64x128, .bf16⟩
  | .local _ .vmem, ⟨2, _⟩ => ⟨S1x4x128, .bf16⟩
  | .local _ .vmem, ⟨3, _⟩ => ⟨S1x4x128, .bf16⟩
  | .local _ .vmem, ⟨4, _⟩ => ⟨S1x4x128, .bf16⟩
  | .local _ .vmem, ⟨5, _⟩ => ⟨S1x4x128, .bf16⟩
  | .local _ .vmem, ⟨6, _⟩ => ⟨S1x32768x128, .fp8e4m3⟩
  | .local _ .vmem, ⟨7, _⟩ => ⟨S1x32768x128, .fp8e4m3⟩
  | .local _ .vmem, ⟨8, _⟩ => ⟨S1x32768x128, .fp8e4m3⟩
  | .local _ .vmem, ⟨9, _⟩ => ⟨S1x32768x128, .fp8e4m3⟩
  | .local _ .vmem, ⟨10, _⟩ => ⟨S8x256, .f32⟩
  | .local _ .vmem, ⟨11, _⟩ => ⟨S4x128, .f32⟩
  | .local _ .vmem, ⟨12, _⟩ => ⟨S1x64x128, .bf16⟩
  | .local _ .vmem, ⟨13, _⟩ => ⟨S1x64x128, .bf16⟩
  | .local _ .vmem, ⟨14, _⟩ => ⟨S1x4x128, .fp8e4m3⟩
  | .local _ .vmem, ⟨15, _⟩ => ⟨S1x4x128, .fp8e4m3⟩
  | .local _ .vmem, ⟨16, _⟩ => ⟨S1x4x128, .fp8e4m3⟩
  | .local _ .vmem, ⟨17, _⟩ => ⟨S1x4x128, .fp8e4m3⟩
  | .local _ .vmem, ⟨18, _⟩ => ⟨S16x32768, .f32⟩
  | _, _ => ⟨S64x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_11 : Ref sig .tc := ⟨.hbm, 71, rfl⟩
abbrev main_v44 : Ref sig .tc := ⟨.hbm, 72, rfl⟩
abbrev main_v45 : Ref sig .tc := ⟨.hbm, 73, rfl⟩
abbrev main_cst_12 : Ref sig .tc := ⟨.hbm, 74, rfl⟩
abbrev main_call3_v0 : Ref sig .tc := ⟨.hbm, 75, rfl⟩
abbrev main_call3_v1 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c : Ref sig .tc := ⟨.hbm, 83, rfl⟩
abbrev main_call4_v0 : Ref sig .tc := ⟨.hbm, 84, rfl⟩
abbrev main_v52 : Ref sig .tc := ⟨.hbm, 85, rfl⟩
abbrev main_v53_0 : Ref sig .tc := ⟨.hbm, 86, rfl⟩
abbrev main_v53_1 : Ref sig .tc := ⟨.hbm, 87, rfl⟩
abbrev main_v53_2 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32768x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32768x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x64x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S64x1x8192 : Shape := ⟨3, ![64, 1, 8192]⟩
abbrev S64x1x4x128 : Shape := ⟨4, ![64, 1, 4, 128]⟩
abbrev S64x8192x4x128 : Shape := ⟨4, ![64, 8192, 4, 128]⟩
abbrev S4 : Shape := ⟨1, ![4]⟩
abbrev S255 : Shape := ⟨1, ![255]⟩
abbrev S1x255 : Shape := ⟨2, ![1, 255]⟩
abbrev S256x16x128 : Shape := ⟨3, ![256, 16, 128]⟩
abbrev S64x4x1x128 : Shape := ⟨4, ![64, 4, 1, 128]⟩
abbrev S256x1x128 : Shape := ⟨3, ![256, 1, 128]⟩
abbrev S64x4x8192x128 : Shape := ⟨4, ![64, 4, 8192, 128]⟩
abbrev S256x8192x128 : Shape := ⟨3, ![256, 8192, 128]⟩
abbrev S4x1 : Shape := ⟨2, ![4, 1]⟩
abbrev S4x255 : Shape := ⟨2, ![4, 255]⟩
abbrev S_ : Shape := ⟨0, ![]⟩
abbrev S1x4 : Shape := ⟨2, ![1, 4]⟩
abbrev S64x4 : Shape := ⟨2, ![64, 4]⟩
abbrev S256 : Shape := ⟨1, ![256]⟩
abbrev S256x1x1 : Shape := ⟨3, ![256, 1, 1]⟩
abbrev S64x64x128 : Shape := ⟨3, ![64, 64, 128]⟩
abbrev S64x4x128 : Shape := ⟨3, ![64, 4, 128]⟩
abbrev S256x8193x128 : Shape := ⟨3, ![256, 8193, 128]⟩
abbrev S256x16x8193 : Shape := ⟨3, ![256, 16, 8193]⟩
abbrev S256x16 : Shape := ⟨2, ![256, 16]⟩
abbrev S256x16x1 : Shape := ⟨3, ![256, 16, 1]⟩

abbrev nBuf : Space → Nat
  | .hbm => 97
  | .vmem => 12
  | .smem => 0
  | _ => 0

abbrev bufTy : (tb : Table) → Fin (tcTables nBuf tb) → BufTy
  | .hbm, ⟨0, _⟩ => ⟨S64x1x8192, .bf16⟩
  | .hbm, ⟨1, _⟩ => ⟨S64x1x4x128, .bf16⟩
  | .hbm, ⟨2, _⟩ => ⟨S64x1x4x128, .bf16⟩
  | .hbm, ⟨3, _⟩ => ⟨S64x8192x4x128, .fp8e4m3⟩
  | .hbm, ⟨4, _⟩ => ⟨S4, .f32⟩
  | .hbm, ⟨5, _⟩ => ⟨S64x8192x4x128, .fp8e4m3⟩
  | .hbm, ⟨6, _⟩ => ⟨S4, .f32⟩
  | .hbm, ⟨7, _⟩ => ⟨S255, .f32⟩
  | .hbm, ⟨8, _⟩ => ⟨S1x255, .f32⟩
  | .hbm, ⟨9, _⟩ => ⟨S255, .f32⟩
  | .hbm, ⟨10, _⟩ => ⟨S1x255, .f32⟩
  | .hbm, ⟨11, _⟩ => ⟨S256x16x128, .bf16⟩
  | .hbm, ⟨12, _⟩ => ⟨S64x4x1x128, .bf16⟩
  | .hbm, ⟨13, _⟩ => ⟨S256x1x128, .bf16⟩
  | .hbm, ⟨14, _⟩ => ⟨S64x4x1x128, .bf16⟩
  | .hbm, ⟨15, _⟩ => ⟨S256x1x128, .bf16⟩
  | .hbm, ⟨16, _⟩ => ⟨S64x4x8192x128, .fp8e4m3⟩
  | .hbm, ⟨17, _⟩ => ⟨S256x8192x128, .fp8e4m3⟩
  | .hbm, ⟨18, _⟩ => ⟨S64x4x8192x128, .fp8e4m3⟩
  | .hbm, ⟨19, _⟩ => ⟨S256x8192x128, .fp8e4m3⟩
  | .hbm, ⟨20, _⟩ => ⟨S4, .f32⟩
  | .hbm, ⟨21, _⟩ => ⟨S4x1, .f32⟩
  | .hbm, ⟨22, _⟩ => ⟨S4x255, .f32⟩
  | .hbm, ⟨23, _⟩ => ⟨S4x255, .f32⟩
  | .hbm, ⟨24, _⟩ => ⟨S4x255, .i1⟩
  | .hbm, ⟨25, _⟩ => ⟨S_, .f32⟩
  | .hbm, ⟨26, _⟩ => ⟨S_, .f32⟩
  | .hbm, ⟨27, _⟩ => ⟨S4x255, .f32⟩
  | .hbm, ⟨28, _⟩ => ⟨S4x255, .f32⟩
  | .hbm, ⟨29, _⟩ => ⟨S4x255, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .i1⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .i1⟩
  | .hbm, ⟨40, _⟩ => ⟨S4, .i1⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S_, .f32⟩
  | .hbm, ⟨45, _⟩ => ⟨S_, .f32⟩
  | .hbm, ⟨46, _⟩ => ⟨S4, .f32⟩
  | .hbm, ⟨47, _⟩ => ⟨S4, .f32⟩
  | .hbm, ⟨48, _⟩ => ⟨S1x4, .f32⟩
  | .hbm, ⟨49, _⟩ => ⟨S64x4, .f32⟩
  | .hbm, ⟨50, _⟩ => ⟨S256, .f32⟩
  | .hbm, ⟨51, _⟩ => ⟨S256x1x1, .f32⟩
  | .hbm, ⟨52, _⟩ => ⟨S4, .f32⟩
  | .hbm, ⟨53, _⟩ => ⟨S4x1, .f32⟩
  | .hbm, ⟨54, _⟩ => ⟨S4x255, .f32⟩
  | .hbm, ⟨55, _⟩ => ⟨S4x255, .f32⟩
  | .hbm, ⟨56, _⟩ => ⟨S4x255, .i1⟩
  | .hbm, ⟨57, _⟩ => ⟨S_, .f32⟩
  | .hbm, ⟨58, _⟩ => ⟨S_, .f32⟩
  | .hbm, ⟨59, _⟩ => ⟨S4x255, .f32⟩
  | .hbm, ⟨60, _⟩ => ⟨S4x255, .f32⟩
  | .hbm, ⟨61, _⟩ => ⟨S4x255, .f32⟩
  | .hbm, ⟨62, _⟩ => ⟨S_, .f32⟩
  | .hbm, ⟨63, _⟩ => ⟨S4, .f32⟩
  | .hbm, ⟨64, _⟩ => ⟨S4, .f32⟩
  | .hbm, ⟨65, _⟩ => ⟨S_, .f32⟩
  | .hbm, ⟨66, _⟩ => ⟨S4, .f32⟩
  | .hbm, ⟨67, _⟩ => ⟨S4, .i1⟩
  | .hbm, ⟨68, _⟩ => ⟨S4, .f32⟩
  | .hbm, ⟨69, _⟩ => ⟨S_, .f32⟩
  | .hbm, ⟨70, _⟩ => ⟨S4, .f32⟩
  | .hbm, ⟨71, _⟩ => ⟨S4, .i1⟩
  | .hbm, ⟨72, _⟩ => ⟨S4, .i1⟩
  | .hbm, ⟨73, _⟩ => ⟨S_, .f32⟩
  | .hbm, ⟨74, _⟩ => ⟨S4, .f32⟩
  | .hbm, ⟨75, _⟩ => ⟨S4, .f32⟩
  | .hbm, ⟨76, _⟩ => ⟨S_, .f32⟩
  | .hbm, ⟨77, _⟩ => ⟨S_, .f32⟩
  | .hbm, ⟨78, _⟩ => ⟨S4, .f32⟩
  | .hbm, ⟨79, _⟩ => ⟨S4, .f32⟩
  | .hbm, ⟨80, _⟩ => ⟨S1x4, .f32⟩
  | .hbm, ⟨81, _⟩ => ⟨S64x4, .f32⟩
  | .hbm, ⟨82, _⟩ => ⟨S256, .f32⟩
  | .hbm, ⟨83, _⟩ => ⟨S256x1x1, .f32⟩
  | .hbm, ⟨84, _⟩ => ⟨S4, .bf16⟩
  | .hbm, ⟨85, _⟩ => ⟨S1x4, .bf16⟩
  | .hbm, ⟨86, _⟩ => ⟨S64x4, .bf16⟩
  | .hbm, ⟨87, _⟩ => ⟨S256, .bf16⟩
  | .hbm, ⟨88, _⟩ => ⟨S256x1x1, .bf16⟩
  | .hbm, ⟨89, _⟩ => ⟨S4, .bf16⟩
  | .hbm, ⟨90, _⟩ => ⟨S1x4, .bf16⟩
  | .hbm, ⟨91, _⟩ => ⟨S64x4, .bf16⟩
  | .hbm, ⟨92, _⟩ => ⟨S256, .bf16⟩
  | .hbm, ⟨93, _⟩ => ⟨S256x1x1, .bf16⟩
  | .hbm, ⟨94, _⟩ => ⟨S64x64x128, .bf16⟩
  | .hbm, ⟨95, _⟩ => ⟨S64x4x128, .fp8e4m3⟩
  | .hbm, ⟨96, _⟩ => ⟨S64x4x128, .fp8e4m3⟩
  | .local _ .vmem, ⟨0, _⟩ => ⟨S256x16x128, .bf16⟩
  | .local _ .vmem, ⟨1, _⟩ => ⟨S256x1x128, .bf16⟩
  | .local _ .vmem, ⟨2, _⟩ => ⟨S256x1x128, .bf16⟩
  | .local _ .vmem, ⟨3, _⟩ => ⟨S256x8192x128, .fp8e4m3⟩
  | .local _ .vmem, ⟨4, _⟩ => ⟨S256x8192x128, .fp8e4m3⟩
  | .local _ .vmem, ⟨5, _⟩ => ⟨S256x1x1, .f32⟩
  | .local _ .vmem, ⟨6, _⟩ => ⟨S256x1x1, .f32⟩
  | .local _ .vmem, ⟨7, _⟩ => ⟨S256x1x1, .bf16⟩
  | .local _ .vmem, ⟨8, _⟩ => ⟨S256x1x1, .bf16⟩
  | .local _ .vmem, ⟨9, _⟩ => ⟨S64x64x128, .bf16⟩
  | .local _ .vmem, ⟨10, _⟩ => ⟨S64x4x128, .fp8e4m3⟩
  | .local _ .vmem, ⟨11, _⟩ => ⟨S64x4x128, .fp8e4m3⟩
  | _, _ => ⟨S64x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_call1_v0 : Ref sig .tc := ⟨.hbm, 45, rfl⟩
abbrev main_call1_v1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_call3_v0 : Ref sig .tc := ⟨.hbm, 77, rfl⟩
abbrev main_call3_v1 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63_0 : Ref sig .tc := ⟨.hbm, 94, rfl⟩
abbrev main_v63_1 : Ref sig .tc := ⟨.hbm, 95, rfl⟩
abbrev main_v63_2 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S256x16x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x8192x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x8192x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x64x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x4x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x4x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KernelBody.lean ====
module

public import proofs.«01_k».proof.Proof.Gen.KernelIdeal.Frame
public import Idealize.ShloMosaic.Lib.Pipeline.ReadBack

/-! # What the kernel body computes, in loop form

The kernel's two loops over 64 tiles of keys and values are written out in full in the printed body.
Here they are functions by recursion on the number of tiles done (`runMax`, `runSum`, `runAcc`), and
the scores kept in the scratch buffer are a list of pieces (`scores`). The last theorems of the module
say that the body's outputs are these functions' values; each holds by unfolding both sides.
-/

@[expose] public section

noncomputable section

namespace Cert.KernelIdeal.Body

open Idealize.ShloMosaic Cert.KernelIdeal Cert.KernelIdeal.Gen

variable {F : FTy → Type} [FloatOps F]

/-- 256 consecutive cache rows from row `r` on lie inside the cache block. -/
theorem inbRows {r : ℕ} (h : r + 256 ≤ 32768) :
    ∀ a, (![0, r, 0] : Fin 3 → ℕ) a + S1x256x128.size a ≤ S1x32768x128.size a := by
  intro a
  fin_cases a
  · exact le_refl 1
  · exact h
  · exact le_refl 128

/-- 256 consecutive columns from column `r` on lie inside the scratch buffer. -/
theorem inbCols {r : ℕ} (h : r + 256 ≤ 32768) :
    ∀ a, (![0, r] : Fin 2 → ℕ) a + S16x256.size a ≤ S16x32768.size a := by
  intro a
  fin_cases a
  · exact le_refl 16
  · exact h

/-- Tile `n` of the first half of the rows. -/
theorem loBound {n : ℕ} (h : n < 64) : 256 * n + 256 ≤ 32768 := by omega

/-- Tile `n` of the second half of the rows. -/
theorem hiBound {n : ℕ} (h : n < 64) : 16384 + 256 * n + 256 ≤ 32768 := by omega

/-- The columns of the scratch buffer from column `r` on. -/
abbrev colRect {r : ℕ} (h : r + 256 ≤ 32768) : Rect S16x32768 :=
  Rect.unit ![0, r] S16x256.size (inbCols h)

/-- Two blocks of 256 cache rows side by side. -/
def pair (a b : Vec F S1x256x128 .fp8e4m3) : FVec F S256x256 .fp8e4m3 :=
  concatenate S256x256 1
    [⟨S256x128, shapeCast S256x128 a shapeCasts_S1x256x128_S256x128⟩,
     ⟨S256x128, shapeCast S256x128 b shapeCasts_S1x256x128_S256x128⟩]
    concatenates_S256x128_S256x128_S256x256_d1

/-- The products of all 64 query rows with the rows of two cache blocks: rows 0–63 of the result
    belong to the first block, rows 64–127 to the second. -/
def dots (q : Vec F S1x64x128 .bf16) (a b : Vec F S1x256x128 .fp8e4m3) : FVec F S128x256 .f32 :=
  matmul dot_S128x256_S256x256_S128x256_1_1_0_0_n_n none (k0_pay2 q) (pair a b)
    (constant S128x256 .f32 0x00000000#32)

/-- Which lanes belong to key/value head `g`. -/
def isHead (g : BitVec 32) : IVec S16x256 1 := cmpi .eq k0_pay3 (broadcast S16x256 g)

/-- Per lane, the rows of the lane's own head. -/
def pick (t0 t1 t2 t3 : FVec F S16x256 .f32) : FVec F S16x256 .f32 :=
  select (isHead 0#32) t0 (select (isHead 1#32) t1 (select (isHead 2#32) t2 t3))

/-- The scores against the first of two cache blocks. -/
def tileLo (o : FVec F S128x256 .f32) (cs : FVec F S1x256 .f32) : FVec F S16x256 .f32 :=
  mulf (pick (extractStridedSlice S16x256 ![0, 0] o slices_S128x256_o0_0_S16x256)
    (extractStridedSlice S16x256 ![16, 0] o slices_S128x256_o16_0_S16x256)
    (extractStridedSlice S16x256 ![32, 0] o slices_S128x256_o32_0_S16x256)
    (extractStridedSlice S16x256 ![48, 0] o slices_S128x256_o48_0_S16x256))
    (broadcastTo S16x256 cs broadcasts_S1x256_S16x256)

/-- The scores against the second of two cache blocks. -/
def tileHi (o : FVec F S128x256 .f32) (cs : FVec F S1x256 .f32) : FVec F S16x256 .f32 :=
  mulf (pick (extractStridedSlice S16x256 ![64, 0] o slices_S128x256_o64_0_S16x256)
    (extractStridedSlice S16x256 ![80, 0] o slices_S128x256_o80_0_S16x256)
    (extractStridedSlice S16x256 ![96, 0] o slices_S128x256_o96_0_S16x256)
    (extractStridedSlice S16x256 ![112, 0] o slices_S128x256_o112_0_S16x256))
    (broadcastTo S16x256 cs broadcasts_S1x256_S16x256)

section Loops

variable (q : Vec F S1x64x128 .bf16) (cs : FVec F S1x256 .f32)
  (K V : ∀ r, r + 256 ≤ 32768 → Vec F S1x256x128 .fp8e4m3)

/-- The scores against tile `n` of the first half of the rows. -/
def lo (n : ℕ) (h : n < 64) : FVec F S16x256 .f32 :=
  tileLo (dots q (K (256 * n) (loBound h)) (K (16384 + 256 * n) (hiBound h))) cs

/-- The scores against tile `n` of the second half of the rows. -/
def hi (n : ℕ) (h : n < 64) : FVec F S16x256 .f32 :=
  tileHi (dots q (K (256 * n) (loBound h)) (K (16384 + 256 * n) (hiBound h))) cs

/-- What the first loop has stored in the scratch buffer after `n` tiles, last store first. -/
def scores : (n : ℕ) → n ≤ 64 → List (View.Piece (Elt F) S16x32768 .f32)
  | 0, _ => []
  | n + 1, h =>
    ⟨colRect (hiBound h), shapeCast S16x256 (hi q cs K n h) shapeCasts_S16x256_S16x256⟩ ::
    ⟨colRect (loBound h), shapeCast S16x256 (lo q cs K n h) shapeCasts_S16x256_S16x256⟩ ::
    scores n (Nat.le_of_succ_le h)

/-- The running maximum, lane by lane, after `n` tiles. -/
def runMax : (n : ℕ) → n ≤ 64 → FVec F S16x256 .f32
  | 0, _ => k0_pay5
  | n + 1, h => maximumf (maximumf (runMax n (Nat.le_of_succ_le h)) (lo q cs K n h)) (hi q cs K n h)

end Loops

/-- The maximum of a row with its rotation by `n` lanes. -/
def rolled (n : BitVec 32) (x : FVec F S16x128 .f32) : FVec F S16x128 .f32 :=
  maximumf x (dynamicRotate 1 n none x rotates_S16x128_d1)

/-- Per lane, the maximum over all lanes of the same head, from the running maximum. -/
def classMax (mx : FVec F S16x256 .f32) : FVec F S16x128 .f32 :=
  rolled 64#32 (rolled 32#32 (rolled 16#32 (rolled 8#32 (rolled 4#32
    (maximumf (extractStridedSlice S16x128 ![0, 0] mx slices_S16x256_o0_0_S16x128)
      (extractStridedSlice S16x128 ![0, 128] mx slices_S16x256_o0_128_S16x128))))))

/-- The maximum, once for each of the two halves of a 256-lane row. -/
def twice (m : FVec F S16x128 .f32) : FVec F S16x256 .f32 :=
  concatenate S16x256 1 [⟨S16x128, m⟩, ⟨S16x128, m⟩] concatenates_S16x128_S16x128_S16x256_d1

/-- The weights of a tile of scores. -/
def weight (m : FVec F S16x128 .f32) (s : Vec F S16x256 .f32) : FVec F S16x256 .f32 :=
  exp (subf s (twice m))

/-- The weights of head `g`, zero elsewhere. -/
def masked (g : BitVec 32) (p : FVec F S16x256 .f32) : FVec F S16x256 .bf16 :=
  truncf .bf16 (select (isHead g) p (broadcast S16x256 (Scalar.ofBits .f32 0x00000000#32)))
    bitsLt_bf16_f32

/-- The weighted values of two tiles: rows 0–63 weighted by the first tile's weights, rows 64–127 by
    the second's; columns 0–127 are the first value block's, 128–255 the second's. -/
def weighted (p0 p1 : FVec F S16x256 .f32) (a b : Vec F S1x256x128 .fp8e4m3) :
    FVec F S128x256 .f32 :=
  matmul dot_S128x256_S256x256_S128x256_1_0_0_1_n_n none
    (concatenate S128x256 0
      [⟨S16x256, masked 0#32 p0⟩, ⟨S16x256, masked 1#32 p0⟩, ⟨S16x256, masked 2#32 p0⟩,
       ⟨S16x256, masked 3#32 p0⟩, ⟨S16x256, masked 0#32 p1⟩, ⟨S16x256, masked 1#32 p1⟩,
       ⟨S16x256, masked 2#32 p1⟩, ⟨S16x256, masked 3#32 p1⟩]
      concatenates_S16x256_S16x256_S16x256_S16x256_S16x256_S16x256_S16x256_S16x256_S128x256_d0)
    (pair a b) (constant S128x256 .f32 0x00000000#32)

section Loops

variable (m : FVec F S16x128 .f32) (S : ∀ r, r + 256 ≤ 32768 → Vec F S16x256 .f32)
  (V : ∀ r, r + 256 ≤ 32768 → Vec F S1x256x128 .fp8e4m3)

/-- The running sum of the weights, lane by lane, after `n` tiles. -/
def runSum : (n : ℕ) → n ≤ 64 → FVec F S16x256 .f32
  | 0, _ => broadcast S16x256 (Scalar.ofBits .f32 0x00000000#32)
  | n + 1, h =>
    addf (addf (runSum n (Nat.le_of_succ_le h)) (weight m (S (256 * n) (loBound h))))
      (weight m (S (16384 + 256 * n) (hiBound h)))

/-- The running weighted values after `n` tiles. -/
def runAcc : (n : ℕ) → n ≤ 64 → FVec F S128x256 .f32
  | 0, _ => broadcast S128x256 (Scalar.ofBits .f32 0x00000000#32)
  | n + 1, h =>
    addf (runAcc n (Nat.le_of_succ_le h))
      (weighted (weight m (S (256 * n) (loBound h))) (weight m (S (16384 + 256 * n) (hiBound h)))
        (V (256 * n) (loBound h)) (V (16384 + 256 * n) (hiBound h)))

end Loops

/-- The two halves of the weighted values, added. -/
def fold64 (acc : FVec F S128x256 .f32) : FVec F S64x128 .f32 :=
  addf (extractStridedSlice S64x128 ![0, 0] acc slices_S128x256_o0_0_S64x128)
    (extractStridedSlice S64x128 ![64, 128] acc slices_S128x256_o64_128_S64x128)

/-- The two halves of the sums, added. -/
def fold16 (l : FVec F S16x256 .f32) : FVec F S16x128 .f32 :=
  addf (extractStridedSlice S16x128 ![0, 0] l slices_S16x256_o0_0_S16x128)
    (extractStridedSlice S16x128 ![0, 128] l slices_S16x256_o0_128_S16x128)

/-- The attention output, from what the body loads. -/
def attended (q : Vec F S1x64x128 .bf16) (kn vn : Vec F S1x4x128 .bf16) (cs : FVec F S1x256 .f32)
    (K V : ∀ r, r + 256 ≤ 32768 → Vec F S1x256x128 .fp8e4m3)
    (S : ∀ r, r + 256 ≤ 32768 → Vec F S16x256 .f32) (h0 h1 h2 h3 : Vec F S4x1 .f32) :
    FVec F S1x64x128 .bf16 :=
  k0_pay1197 (k0_pay1 q) (fold64 (runAcc (classMax (runMax q cs K 64 le_rfl)) S V 64 le_rfl))
    (k0_pay1187 (classMax (runMax q cs K 64 le_rfl)))
    (k0_pay1188 (fold16 (runSum (classMax (runMax q cs K 64 le_rfl)) S 64 le_rfl))
      (k0_pay1186 k0_pay3) 0#32)
    (k0_pay1194 (k0_pay1189 kn h0)) (k0_pay1195 (k0_pay1190 vn) h1) (k0_pay1196 h2) h3

section Outputs

variable (c : Dev nD) (i : grid0.Coords) (arg1 : Memref sig .tc .vmem S1x64x128 .bf16) (harg1 : arg1.IsWhole) (arg2 : Memref sig .tc .vmem S1x4x128 .bf16) (harg2 : arg2.IsWhole) (arg3 : Memref sig .tc .vmem S1x4x128 .bf16) (harg3 : arg3.IsWhole) (arg4 : Memref sig .tc .vmem S1x32768x128 .fp8e4m3) (harg4 : arg4.IsWhole) (arg5 : Memref sig .tc .vmem S1x32768x128 .fp8e4m3) (harg5 : arg5.IsWhole) (arg6 : Memref sig .tc .vmem S8x256 .f32) (harg6 : arg6.IsWhole) (arg7 : Memref sig .tc .vmem S4x128 .f32) (harg7 : arg7.IsWhole) (arg8 : Memref sig .tc .vmem S1x64x128 .bf16) (harg8 : arg8.IsWhole) (arg9 : Memref sig .tc .vmem S1x4x128 .fp8e4m3) (harg9 : arg9.IsWhole) (arg10 : Memref sig .tc .vmem S1x4x128 .fp8e4m3) (harg10 : arg10.IsWhole) (arg11 : Memref sig .tc .vmem S16x32768 .f32) (harg11 : arg11.IsWhole)
    (x0 : Vec F S1x64x128 .bf16) (x1 : Vec F S1x4x128 .bf16) (x2 : Vec F S1x4x128 .bf16) (x3 : Vec F S1x32768x128 .fp8e4m3) (x4 : Vec F S1x32768x128 .fp8e4m3) (x5 : Vec F S8x256 .f32) (x6 : Vec F S4x128 .f32)

/-- The query block as loaded. -/
abbrev ldQ : Vec F S1x64x128 .bf16 :=
  View.readAt (Elt F) arg1.view
    (Rect.unit (s := S1x64x128) ![0, 0, 0] S1x64x128.size inb_S1x64x128_S1x64x128_0_0_0).toLoadRect (harg1.unread x0)

/-- The new key (or value) block as loaded. -/
abbrev ldN : Vec F S1x4x128 .bf16 :=
  View.readAt (Elt F) arg2.view
    (Rect.unit (s := S1x4x128) ![0, 0, 0] S1x4x128.size inb_S1x4x128_S1x4x128_0_0_0).toLoadRect (harg2.unread x1)

/-- 256 rows of a cache block as loaded. -/
abbrev ldC (r : ℕ) (h : r + 256 ≤ 32768) : Vec F S1x256x128 .fp8e4m3 :=
  View.readAt (Elt F) arg4.view (Rect.unit (s := S1x32768x128) ![0, r, 0] S1x256x128.size (inbRows h)).toLoadRect
    (harg4.unread x3)

/-- The row of score scales as loaded. -/
abbrev ldS : FVec F S1x256 .f32 :=
  k0_pay4 (View.readAt (Elt F) arg6.view
    (Rect.unit (s := S8x256) ![0, 0] S1x256.size inb_S8x256_S1x256_0_0).toLoadRect (harg6.unread x5))

/-- The scores as stored by the first loop. -/
abbrev stored : List (View.Piece (Elt F) S16x32768 .f32) :=
  scores (ldQ arg1 harg1 x0) (ldS arg6 harg6 x5) (ldC arg4 harg4 x3) 64 le_rfl

/-- A column of head scales as loaded. -/
abbrev ldH (k : ℕ) (h : ∀ a, (![0, k] : Fin 2 → ℕ) a + S4x1.size a ≤ S4x128.size a) :
    Vec F S4x1 .f32 :=
  View.readAt (Elt F) arg7.view (Rect.unit (s := S4x128) ![0, k] S4x1.size h).toLoadRect
    (harg7.unread x6)

/-- A tile of scores as the second loop loads it. -/
abbrev ldT (r : ℕ) (h : r + 256 ≤ 32768) : Vec F S16x256 .f32 :=
  arg11.view.readCov (stored arg1 harg1 arg4 harg4 arg6 harg6 x0 x3 x5) (colRect h).toLoadRect

set_option maxRecDepth 100000 in
/-- The attention output the body stores. -/
theorem pieces7 :
    (kernelRun0_A c i arg1 harg1 arg2 harg2 arg3 harg3 arg4 harg4 arg5 harg5 arg6 harg6 arg7 harg7 arg8 harg8 arg9 harg9 arg10 harg10 arg11 harg11 x0 x1 x2 x3 x4 x5 x6).1
    = [⟨Rect.unit ![0, 0, 0] S1x64x128.size inb_S1x64x128_S1x64x128_0_0_0,
        attended (ldQ arg1 harg1 x0) (ldN arg2 harg2 x1) (ldN arg3 harg3 x2) (ldS arg6 harg6 x5)
          (ldC arg4 harg4 x3) (ldC arg5 harg5 x4)
          (ldT arg1 harg1 arg4 harg4 arg6 harg6 arg11 x0 x3 x5)
          (ldH arg7 harg7 x6 0 inb_S4x128_S4x1_0_0) (ldH arg7 harg7 x6 1 inb_S4x128_S4x1_0_1)
          (ldH arg7 harg7 x6 2 inb_S4x128_S4x1_0_2) (ldH arg7 harg7 x6 3 inb_S4x128_S4x1_0_3)⟩] := by
  sl_kernel_rfl

/-- The key codes the body stores. -/
theorem pieces8 :
    (kernelRun0_A c i arg1 harg1 arg2 harg2 arg3 harg3 arg4 harg4 arg5 harg5 arg6 harg6 arg7 harg7 arg8 harg8 arg9 harg9 arg10 harg10 arg11 harg11 x0 x1 x2 x3 x4 x5 x6).2.1
    = [⟨Rect.unit ![0, 0, 0] S1x4x128.size inb_S1x4x128_S1x4x128_0_0_0,
        k0_pay1192 (k0_pay1189 (ldN arg2 harg2 x1) (ldH arg7 harg7 x6 0 inb_S4x128_S4x1_0_0))⟩] := by
  sl_kernel_rfl

/-- The value codes the body stores. -/
theorem pieces9 :
    (kernelRun0_A c i arg1 harg1 arg2 harg2 arg3 harg3 arg4 harg4 arg5 harg5 arg6 harg6 arg7 harg7 arg8 harg8 arg9 harg9 arg10 harg10 arg11 harg11 x0 x1 x2 x3 x4 x5 x6).2.2.1
    = [⟨Rect.unit ![0, 0, 0] S1x4x128.size inb_S1x4x128_S1x4x128_0_0_0,
        k0_pay1193 (k0_pay1190 (ldN arg3 harg3 x2)) (ldH arg7 harg7 x6 1 inb_S4x128_S4x1_0_1)⟩] := by
  sl_kernel_rfl

end Outputs

end Cert.KernelIdeal.Body
-- ==== Proof.KernelLoads.lean ====
module

public import proofs.«01_k».proof.Proof.KernelBody
public import Idealize.ShloMosaic.Lib.Pipeline.Value

/-! # The kernel body's outputs as functions of its input blocks

The second loop reads back from the scratch buffer the tiles of scores that the first loop stored,
and every other load reads part of an input block.
-/

@[expose] public section

noncomputable section

namespace Cert.KernelIdeal.Body

open Idealize.ShloMosaic Cert.KernelIdeal Cert.KernelIdeal.Gen

variable {F : FTy → Type} [FloatOps F]

section Tiles

variable (q : Vec F S1x64x128 .bf16) (cs : FVec F S1x256 .f32)
  (K : ∀ r, r + 256 ≤ 32768 → Vec F S1x256x128 .fp8e4m3)

/-- Columns from `r` on and columns from `s` on do not meet when the two are 256 apart. -/
theorem colRect_not_mem {r s : ℕ} (hr : r + 256 ≤ 32768) (hs : s + 256 ≤ 32768)
    (h : r + 256 ≤ s ∨ s + 256 ≤ r) (x : S16x256.Idx) : (colRect hr).idx x ∉ (colRect hs).set := by
  intro hm
  have h1 := Rect.mem_set_unit.mp hm 1
  have h2 : (x 1 : ℕ) < 256 := (x 1).isLt
  have h3 : (((colRect hr).idx x 1 : Fin _) : ℕ) = r + 1 * (x 1 : ℕ) := rfl
  have h4 : s ≤ ((colRect hr).idx x 1 : ℕ) ∧ ((colRect hr).idx x 1 : ℕ) < s + 256 := h1
  omega

/-- A tile of the scratch buffer is not changed by a store to other columns. -/
theorem canon_miss {r s : ℕ} (hr : r + 256 ≤ 32768) (hs : s + 256 ≤ 32768)
    (h : r + 256 ≤ s ∨ s + 256 ≤ r) (w : FVec F S16x256 .f32)
    (L : List (View.Piece (Elt F) S16x32768 .f32)) (x : S16x256.Idx) :
    View.canon (⟨colRect hs, w⟩ :: L) ((colRect hr).idx x) = View.canon L ((colRect hr).idx x) :=
  View.canon_cons_of_not_mem _ _ (colRect_not_mem hr hs h x)

/-- A tile of the scratch buffer just stored. -/
theorem canon_hit {r : ℕ} (hr : r + 256 ≤ 32768) (w : FVec F S16x256 .f32)
    (L : List (View.Piece (Elt F) S16x32768 .f32)) (x : S16x256.Idx) :
    View.canon (⟨colRect hr, w⟩ :: L) ((colRect hr).idx x) = w x :=
  View.canon_cons_emb (colRect hr) w L x

/-- After `n` tiles the scratch buffer holds every earlier tile of the first half. -/
theorem canon_lo (n : ℕ) (h : n ≤ 64) (k : ℕ) (hk : k < n) (x : S16x256.Idx) :
    View.canon (scores q cs K n h) ((colRect (loBound (lt_of_lt_of_le hk h))).idx x)
      = lo q cs K k (lt_of_lt_of_le hk h) x := by
  induction n with
  | zero => exact absurd hk (Nat.not_lt_zero k)
  | succ n ih =>
    have hk64 : k < 64 := lt_of_lt_of_le hk h
    rw [scores]
    refine (canon_miss (loBound hk64) (hiBound h) (Or.inl (by omega)) _ _ x).trans ?_
    rcases Nat.lt_succ_iff_lt_or_eq.mp hk with hk' | rfl
    · refine (canon_miss (loBound hk64) (loBound h) (Or.inl (by omega)) _ _ x).trans ?_
      exact ih (Nat.le_of_succ_le h) hk'
    · refine (canon_hit (loBound hk64) _ _ x).trans ?_
      rw [shapeCast_self]

/-- After `n` tiles the scratch buffer holds every earlier tile of the second half. -/
theorem canon_hi (n : ℕ) (h : n ≤ 64) (k : ℕ) (hk : k < n) (x : S16x256.Idx) :
    View.canon (scores q cs K n h) ((colRect (hiBound (lt_of_lt_of_le hk h))).idx x)
      = hi q cs K k (lt_of_lt_of_le hk h) x := by
  induction n with
  | zero => exact absurd hk (Nat.not_lt_zero k)
  | succ n ih =>
    have hk64 : k < 64 := lt_of_lt_of_le hk h
    rw [scores]
    rcases Nat.lt_succ_iff_lt_or_eq.mp hk with hk' | rfl
    · refine (canon_miss (hiBound hk64) (hiBound h) (Or.inl (by omega)) _ _ x).trans ?_
      refine (canon_miss (hiBound hk64) (loBound h) (Or.inr (by omega)) _ _ x).trans ?_
      exact ih (Nat.le_of_succ_le h) hk'
    · refine (canon_hit (hiBound hk64) _ _ x).trans ?_
      rw [shapeCast_self]

end Tiles

/-- 256 rows of a cache block. -/
def rowsOf (x : Vec F S1x32768x128 .fp8e4m3) (r : ℕ) (h : r + 256 ≤ 32768) :
    Vec F S1x256x128 .fp8e4m3 :=
  View.ld x (Rect.unit (s := S1x32768x128) ![0, r, 0] S1x256x128.size (inbRows h))

/-- The row of score scales. -/
def scaleRow (x : Vec F S8x256 .f32) : FVec F S1x256 .f32 :=
  k0_pay4 (View.ld x (Rect.unit (s := S8x256) ![0, 0] S1x256.size inb_S8x256_S1x256_0_0))

/-- A column of head scales. -/
def headCol (x : Vec F S4x128 .f32) (k : ℕ)
    (h : ∀ a, (![0, k] : Fin 2 → ℕ) a + S4x1.size a ≤ S4x128.size a) : Vec F S4x1 .f32 :=
  View.ld x (Rect.unit (s := S4x128) ![0, k] S4x1.size h)

/-- A tile of scores, read back from the scratch buffer. -/
def tile (q : Vec F S1x64x128 .bf16) (k : Vec F S1x32768x128 .fp8e4m3) (cs : Vec F S8x256 .f32)
    (r : ℕ) (h : r + 256 ≤ 32768) : Vec F S16x256 .f32 :=
  fun x => View.canon (scores q (scaleRow cs) (rowsOf k) 64 le_rfl) ((colRect h).idx x)

section Outputs

variable (c : Dev nD) (i : grid0.Coords) (arg1 : Memref sig .tc .vmem S1x64x128 .bf16) (harg1 : arg1.IsWhole) (arg2 : Memref sig .tc .vmem S1x4x128 .bf16) (harg2 : arg2.IsWhole) (arg3 : Memref sig .tc .vmem S1x4x128 .bf16) (harg3 : arg3.IsWhole) (arg4 : Memref sig .tc .vmem S1x32768x128 .fp8e4m3) (harg4 : arg4.IsWhole) (arg5 : Memref sig .tc .vmem S1x32768x128 .fp8e4m3) (harg5 : arg5.IsWhole) (arg6 : Memref sig .tc .vmem S8x256 .f32) (harg6 : arg6.IsWhole) (arg7 : Memref sig .tc .vmem S4x128 .f32) (harg7 : arg7.IsWhole) (arg8 : Memref sig .tc .vmem S1x64x128 .bf16) (harg8 : arg8.IsWhole) (arg9 : Memref sig .tc .vmem S1x4x128 .fp8e4m3) (harg9 : arg9.IsWhole) (arg10 : Memref sig .tc .vmem S1x4x128 .fp8e4m3) (harg10 : arg10.IsWhole) (arg11 : Memref sig .tc .vmem S16x32768 .f32) (harg11 : arg11.IsWhole)
    (x0 : Vec F S1x64x128 .bf16) (x1 : Vec F S1x4x128 .bf16) (x2 : Vec F S1x4x128 .bf16) (x3 : Vec F S1x32768x128 .fp8e4m3) (x4 : Vec F S1x32768x128 .fp8e4m3) (x5 : Vec F S8x256 .f32) (x6 : Vec F S4x128 .f32)

theorem ldQ_eq : ldQ arg1 harg1 x0 = x0 := by
  unfold ldQ
  rw [View.readAt_eq_ld, harg1.read_unread]
  exact View.ld_unit_zero (by funext a; fin_cases a <;> rfl) _ _

theorem ldN_eq : ldN arg2 harg2 x1 = x1 := by
  unfold ldN
  rw [View.readAt_eq_ld, harg2.read_unread]
  exact View.ld_unit_zero (by funext a; fin_cases a <;> rfl) _ _

theorem ldC_eq : ldC arg4 harg4 x3 = rowsOf x3 := by
  funext r h
  unfold ldC rowsOf
  rw [View.readAt_eq_ld, harg4.read_unread]

theorem ldS_eq : ldS arg6 harg6 x5 = scaleRow x5 := by
  unfold ldS scaleRow
  rw [View.readAt_eq_ld, harg6.read_unread]

theorem ldH_eq (k : ℕ) (h : ∀ a, (![0, k] : Fin 2 → ℕ) a + S4x1.size a ≤ S4x128.size a) :
    ldH arg7 harg7 x6 k h = headCol x6 k h := by
  unfold ldH headCol
  rw [View.readAt_eq_ld, harg7.read_unread]

theorem ldT_eq : ldT arg1 harg1 arg4 harg4 arg6 harg6 arg11 x0 x3 x5 = tile x0 x3 x5 := by
  funext r h
  unfold ldT tile stored
  rw [View.readCov_eq_canon', ldQ_eq, ldS_eq, ldC_eq]
  rfl

/-- The attention output block. -/
theorem out7_eq : out0_A_7 c i arg1 harg1 arg2 harg2 arg3 harg3 arg4 harg4 arg5 harg5 arg6 harg6 arg7 harg7 arg8 harg8 arg9 harg9 arg10 harg10 arg11 harg11 x0 x1 x2 x3 x4 x5 x6
    = attended x0 x1 x2 (scaleRow x5) (rowsOf x3) (rowsOf x4) (tile x0 x3 x5)
        (headCol x6 0 inb_S4x128_S4x1_0_0) (headCol x6 1 inb_S4x128_S4x1_0_1)
        (headCol x6 2 inb_S4x128_S4x1_0_2) (headCol x6 3 inb_S4x128_S4x1_0_3) := by
  unfold out0_A_7
  rw [View.read_writes_junk_eq_canon, pieces7, ldQ_eq, ldN_eq, ldN_eq, ldS_eq, ldC_eq, ldC_eq,
    ldT_eq, ldH_eq, ldH_eq, ldH_eq, ldH_eq]
  exact View.canon_unit_zero (by funext a; fin_cases a <;> rfl) _ _

/-- The key codes block. -/
theorem out8_eq : out0_A_8 c i arg1 harg1 arg2 harg2 arg3 harg3 arg4 harg4 arg5 harg5 arg6 harg6 arg7 harg7 arg8 harg8 arg9 harg9 arg10 harg10 arg11 harg11 x0 x1 x2 x3 x4 x5 x6
    = k0_pay1192 (k0_pay1189 x1 (headCol x6 0 inb_S4x128_S4x1_0_0)) := by
  unfold out0_A_8
  rw [View.read_writes_junk_eq_canon, pieces8, ldN_eq, ldH_eq]
  exact View.canon_unit_zero (by funext a; fin_cases a <;> rfl) _ _

/-- The value codes block. -/
theorem out9_eq : out0_A_9 c i arg1 harg1 arg2 harg2 arg3 harg3 arg4 harg4 arg5 harg5 arg6 harg6 arg7 harg7 arg8 harg8 arg9 harg9 arg10 harg10 arg11 harg11 x0 x1 x2 x3 x4 x5 x6
    = k0_pay1193 (k0_pay1190 x2) (headCol x6 1 inb_S4x128_S4x1_0_1) := by
  unfold out0_A_9
  rw [View.read_writes_junk_eq_canon, pieces9, ldN_eq, ldH_eq]
  exact View.canon_unit_zero (by funext a; fin_cases a <;> rfl) _ _

end Outputs

end Cert.KernelIdeal.Body
-- ==== Proof.KernelTiles.lean ====
module

public import proofs.«01_k».proof.Proof.KernelLoads
public import Idealize.ShloMosaic.Lib.Pointwise

/-! # The kernel's scores and their maximum, element by element -/

@[expose] public section

set_option maxRecDepth 16384

noncomputable section

namespace Cert.KernelIdeal.Body

open Idealize.ShloMosaic Cert.KernelIdeal Cert.KernelIdeal.Gen

/-- Lane `l` belongs to head `l % 4`. -/
theorem head_apply (j : Fin 16) (l : Fin 256) :
    k0_pay3 (ix2 j l) = BitVec.ofNat 32 (l % 4) := by
  pointwise [k0_pay3]
  revert l
  decide +kernel

theorem isHead_apply (g : Fin 4) (j : Fin 16) (l : Fin 256) :
    isHead (BitVec.ofNat 32 g) (ix2 j l) = if (l : ℕ) % 4 = g then 1#1 else 0#1 := by
  have key : ∀ (a g : Fin 4), IntOp.cmpi CmpIPredicate.eq (BitVec.ofNat 32 a) (BitVec.ofNat 32 g)
      = if (a : ℕ) = g then 1#1 else 0#1 := by decide
  have h := head_apply j l
  pointwise [isHead]
  rw [h]
  exact key ⟨(l : ℕ) % 4, Nat.mod_lt _ (by norm_num)⟩ g

/-- Choosing by a head's lanes. -/
theorem select_isHead (g : Fin 4) (j : Fin 16) (l : Fin 256) (a b : EReal) :
    Scalar.select (isHead (BitVec.ofNat 32 g) (ix2 j l)) a b = if (l : ℕ) % 4 = g then a else b := by
  rw [isHead_apply]
  split <;> rfl

theorem dots_lo (q : Vec Ideal S1x64x128 .bf16) (a b : Vec Ideal S1x256x128 .fp8e4m3)
    (h : Fin 64) (l : Fin 256) :
    dots q a b (ix2 ⟨h, by omega⟩ l) = ∑ d : Fin 128, q (ix3 0 h d) * a (ix3 0 l d) := by
  pointwise [dots, pair, k0_pay2, k0_pay1]
  simp only [zero_mul, Finset.sum_const_zero, add_zero]

theorem dots_hi (q : Vec Ideal S1x64x128 .bf16) (a b : Vec Ideal S1x256x128 .fp8e4m3)
    (h : Fin 64) (l : Fin 256) :
    dots q a b (ix2 ⟨64 + h, by omega⟩ l) = ∑ d : Fin 128, q (ix3 0 h d) * b (ix3 0 l d) := by
  pointwise [dots, pair, k0_pay2, k0_pay1]
  simp only [zero_mul, Finset.sum_const_zero, zero_add]

/-- A lane's own head's row. -/
def headRow (j : Fin 16) (g : Fin 4) : Fin 64 := ⟨16 * g + j, by omega⟩

/-- A lane's head. -/
def laneHead (r : ℕ) : Fin 4 := ⟨r % 4, Nat.mod_lt _ (by norm_num)⟩

theorem pick_apply (t0 t1 t2 t3 : FVec Ideal S16x256 .f32) (j : Fin 16) (l : Fin 256)
    (f : Fin 4 → EReal) (e0 : t0 (ix2 j l) = f 0) (e1 : t1 (ix2 j l) = f 1)
    (e2 : t2 (ix2 j l) = f 2) (e3 : t3 (ix2 j l) = f 3) :
    pick t0 t1 t2 t3 (ix2 j l) = f (laneHead l) := by
  have h0 := select_isHead 0 j l
  have h1 := select_isHead 1 j l
  have h2 := select_isHead 2 j l
  pointwise [pick]
  refine (h0 _ _).trans ?_
  rw [show Scalar.select (isHead (1#32) (ix2 j l)) _ _ = _ from h1 _ _,
    show Scalar.select (isHead (2#32) (ix2 j l)) _ _ = _ from h2 _ _, e0, e1, e2, e3]
  have h4 : (l : ℕ) % 4 < 4 := Nat.mod_lt _ (by norm_num)
  generalize hg : laneHead l = g
  have hg' : (l : ℕ) % 4 = g := congrArg Fin.val hg
  rw [hg']
  fin_cases g <;> rfl

/-- A query row among the products with the first of two cache blocks. -/
def loRow (h : Fin 64) : Fin 128 := ⟨h, by omega⟩

/-- A query row among the products with the second of two cache blocks. -/
def hiRow (h : Fin 64) : Fin 128 := ⟨64 + h, by omega⟩

theorem tileLo_apply (o : FVec Ideal S128x256 .f32) (c : FVec Ideal S1x256 .f32) (j : Fin 16)
    (l : Fin 256) :
    tileLo o c (ix2 j l) = o (ix2 (loRow (headRow j (laneHead l))) l) * c (ix2 0 l) := by
  have h := pick_apply (extractStridedSlice S16x256 ![0, 0] o slices_S128x256_o0_0_S16x256)
    (extractStridedSlice S16x256 ![16, 0] o slices_S128x256_o16_0_S16x256)
    (extractStridedSlice S16x256 ![32, 0] o slices_S128x256_o32_0_S16x256)
    (extractStridedSlice S16x256 ![48, 0] o slices_S128x256_o48_0_S16x256) j l
    (fun g => o (ix2 (loRow (headRow j g)) l))
  simp only [loRow, headRow] at h
  have h' := h (by pointwise []) (by pointwise []) (by pointwise []) (by pointwise [])
  pointwise [tileLo]
  exact congrArg (· * _) h'

theorem tileHi_apply (o : FVec Ideal S128x256 .f32) (c : FVec Ideal S1x256 .f32) (j : Fin 16)
    (l : Fin 256) :
    tileHi o c (ix2 j l) = o (ix2 (hiRow (headRow j (laneHead l))) l) * c (ix2 0 l) := by
  have h := pick_apply (extractStridedSlice S16x256 ![64, 0] o slices_S128x256_o64_0_S16x256)
    (extractStridedSlice S16x256 ![80, 0] o slices_S128x256_o80_0_S16x256)
    (extractStridedSlice S16x256 ![96, 0] o slices_S128x256_o96_0_S16x256)
    (extractStridedSlice S16x256 ![112, 0] o slices_S128x256_o112_0_S16x256) j l
    (fun g => o (ix2 (hiRow (headRow j g)) l))
  simp only [hiRow, headRow] at h
  have h' := h (by pointwise []) (by pointwise []; congr 3; omega) (by pointwise []; congr 3; omega)
    (by pointwise []; congr 3; omega)
  pointwise [tileHi]
  exact congrArg (· * _) h'

/-- Cache row `r` of a block of 32768 rows. -/
def cacheRow (r : ℕ) : Fin 32768 := ⟨r % 32768, Nat.mod_lt _ (by norm_num)⟩

theorem cacheRow_of_lt {r : ℕ} (h : r < 32768) : cacheRow r = ⟨r, h⟩ :=
  Fin.ext (Nat.mod_eq_of_lt h)

/-- The score of query row `h` against cache row `r`. -/
def score (q : Vec Ideal S1x64x128 .bf16) (k : Vec Ideal S1x32768x128 .fp8e4m3)
    (cs : Vec Ideal S8x256 .f32) (h : Fin 64) (r : ℕ) : EReal :=
  (∑ d : Fin 128, q (ix3 0 h d) * k (ix3 0 (cacheRow r) d))
    * cs (ix2 0 ⟨r % 256, Nat.mod_lt _ (by norm_num)⟩)

section Scores

variable (q : Vec Ideal S1x64x128 .bf16) (k : Vec Ideal S1x32768x128 .fp8e4m3)
  (cs : Vec Ideal S8x256 .f32)

theorem rowsOf_apply (r : ℕ) (h : r + 256 ≤ 32768) (l : Fin 256) (d : Fin 128) :
    rowsOf k r h (ix3 0 l d) = k (ix3 0 (cacheRow (r + l)) d) := by
  rw [cacheRow_of_lt (by omega)]
  pointwise [rowsOf]

theorem scaleRow_apply (l : Fin 256) : scaleRow cs (ix2 0 l) = cs (ix2 0 l) := by
  pointwise [scaleRow, k0_pay4]

theorem lo_apply (n : ℕ) (h : n < 64) (j : Fin 16) (l : Fin 256) :
    lo q (scaleRow cs) (rowsOf k) n h (ix2 j l)
      = score q k cs (headRow j (laneHead l)) (256 * n + l) := by
  have e : (256 * n + (l : ℕ)) % 256 = l := by omega
  rw [lo, tileLo_apply, loRow, dots_lo, scaleRow_apply, score]
  simp only [rowsOf_apply, e]

theorem hi_apply (n : ℕ) (h : n < 64) (j : Fin 16) (l : Fin 256) :
    hi q (scaleRow cs) (rowsOf k) n h (ix2 j l)
      = score q k cs (headRow j (laneHead l)) (16384 + 256 * n + l) := by
  have e : (16384 + 256 * n + (l : ℕ)) % 256 = l := by omega
  rw [hi, tileHi_apply, hiRow, dots_hi, scaleRow_apply, score]
  simp only [rowsOf_apply, e]

/-- A tile of the first half of the scratch buffer. -/
theorem tile_lo (n : ℕ) (h : n < 64) (j : Fin 16) (l : Fin 256) :
    tile q k cs (256 * n) (loBound h) (ix2 j l)
      = score q k cs (headRow j (laneHead l)) (256 * n + l) :=
  (canon_lo q (scaleRow cs) (rowsOf k) 64 le_rfl n h (ix2 j l)).trans (lo_apply q k cs n h j l)

/-- A tile of the second half of the scratch buffer. -/
theorem tile_hi (n : ℕ) (h : n < 64) (j : Fin 16) (l : Fin 256) :
    tile q k cs (16384 + 256 * n) (hiBound h) (ix2 j l)
      = score q k cs (headRow j (laneHead l)) (16384 + 256 * n + l) :=
  (canon_hi q (scaleRow cs) (rowsOf k) 64 le_rfl n h (ix2 j l)).trans (hi_apply q k cs n h j l)

end Scores

end Cert.KernelIdeal.Body
-- ==== Proof.KernelMax.lean ====
module

public import proofs.«01_k».proof.Proof.KernelTiles

/-! # The maximum the kernel subtracts

Each lane keeps the maximum of the scores it sees; rotating by 4, 8, …, 64 lanes joins the lanes of
one head. The result is the maximum over all cache rows of the query row's own head.
-/

@[expose] public section

set_option maxRecDepth 16384

noncomputable section

namespace Cert.KernelIdeal.Body

open Idealize.ShloMosaic Cert.KernelIdeal Cert.KernelIdeal.Gen

/-- Lane `l` of 128, counted round. -/
def lane (l : ℕ) : Fin 128 := ⟨l % 128, Nat.mod_lt _ (by norm_num)⟩

/-- `y` is the maximum of `n` lanes of `x`, 4 apart, going down. -/
def JoinsLanes (n : ℕ) (y x : FVec Ideal S16x128 .f32) : Prop :=
  ∀ (j : Fin 16) (l : ℕ) (b : EReal),
    y (ix2 j (lane l)) ≤ b ↔ ∀ i < n, x (ix2 j (lane (l + 124 * i))) ≤ b

theorem JoinsLanes.double {n : ℕ} {y y' x : FVec Ideal S16x128 .f32} (hy : JoinsLanes n y x)
    (h : ∀ (j : Fin 16) (l : ℕ),
      y' (ix2 j (lane l)) = max (y (ix2 j (lane l))) (y (ix2 j (lane (l + 124 * n))))) :
    JoinsLanes (n + n) y' x := by
  intro j l b
  rw [h, max_le_iff, hy, hy]
  constructor
  · rintro ⟨h1, h2⟩ i hi
    by_cases hn : i < n
    · exact h1 i hn
    · have e : l + 124 * n + 124 * (i - n) = l + 124 * i := by omega
      exact e ▸ h2 (i - n) (by omega)
  · intro h1
    refine ⟨fun i hi => h1 i (by omega), fun i hi => ?_⟩
    have e : l + 124 * n + 124 * i = l + 124 * (n + i) := by ring
    exact e ▸ h1 (n + i) (by omega)

/-- Two lanes are the same when their numbers agree modulo 128. -/
theorem lane_congr (x : FVec Ideal S16x128 .f32) (j : Fin 16) {a b c : ℕ} (hc : c < 128)
    (h : c = b % 128) :
    max (x (ix2 j (lane a))) (x (ix2 j ⟨c, hc⟩)) = max (x (ix2 j (lane a))) (x (ix2 j (lane b))) := by
  subst h
  rfl

/-- The maximum over the lanes of a head is the maximum of 32 lanes, 4 apart. -/
theorem joins_classMax (mx : FVec Ideal S16x256 .f32) :
    JoinsLanes 32 (classMax mx) (maximumf (extractStridedSlice S16x128 ![0, 0] mx slices_S16x256_o0_0_S16x128)
      (extractStridedSlice S16x128 ![0, 128] mx slices_S16x256_o0_128_S16x128)) := by
  rw [classMax]
  generalize maximumf (extractStridedSlice S16x128 ![0, 0] mx slices_S16x256_o0_0_S16x128)
      (extractStridedSlice S16x128 ![0, 128] mx slices_S16x256_o0_128_S16x128) = x
  have h1 : JoinsLanes 1 x x := fun j l b =>
    ⟨fun h i hi => by obtain rfl : i = 0 := by omega
                      exact h, fun h => h 0 (by norm_num)⟩
  have h2 : JoinsLanes 2 (rolled 4#32 x) x := h1.double fun j l => by
    pointwise [rolled]
    exact lane_congr x j _ (by simp only [lane]; omega)
  generalize rolled 4#32 x = x2 at h2 ⊢
  have h4 : JoinsLanes 4 (rolled 8#32 x2) x := h2.double fun j l => by
    pointwise [rolled]
    exact lane_congr x2 j _ (by simp only [lane]; omega)
  generalize rolled 8#32 x2 = x4 at h4 ⊢
  have h8 : JoinsLanes 8 (rolled 16#32 x4) x := h4.double fun j l => by
    pointwise [rolled]
    exact lane_congr x4 j _ (by simp only [lane]; omega)
  generalize rolled 16#32 x4 = x8 at h8 ⊢
  have h16 : JoinsLanes 16 (rolled 32#32 x8) x := h8.double fun j l => by
    pointwise [rolled]
    exact lane_congr x8 j _ (by simp only [lane]; omega)
  generalize rolled 32#32 x8 = x16 at h16 ⊢
  exact h16.double fun j l => by
    pointwise [rolled]
    exact lane_congr x16 j _ (by simp only [lane]; omega)

theorem classMax_le (mx : FVec Ideal S16x256 .f32) (j : Fin 16) (l : Fin 128) (b : EReal) :
    classMax mx (ix2 j l) ≤ b ↔ ∀ l' : Fin 256, (l' : ℕ) % 4 = l % 4 → mx (ix2 j l') ≤ b := by
  have e : lane l = l := Fin.ext (Nat.mod_eq_of_lt l.isLt)
  have h := joins_classMax mx j l b
  rw [e] at h
  refine h.trans ?_
  have hx : ∀ t : Fin 128, maximumf (extractStridedSlice S16x128 ![0, 0] mx slices_S16x256_o0_0_S16x128)
      (extractStridedSlice S16x128 ![0, 128] mx slices_S16x256_o0_128_S16x128) (ix2 j t)
      = max (mx (ix2 j ⟨t, by omega⟩)) (mx (ix2 j ⟨128 + t, by omega⟩)) := by
    intro t
    pointwise []
  simp only [hx, max_le_iff]
  constructor
  · intro h l' hl'
    have h1 := h (((l : ℕ) + 128 - l' % 128) / 4 % 32) (Nat.mod_lt _ (by norm_num))
    have e1 : ((l : ℕ) + 124 * (((l : ℕ) + 128 - l' % 128) / 4 % 32)) % 128 = l' % 128 := by omega
    simp only [lane, e1] at h1
    by_cases h2 : (l' : ℕ) < 128
    · refine le_trans (le_of_eq ?_) h1.1
      congr 2
      exact Fin.ext (Nat.mod_eq_of_lt h2).symm
    · refine le_trans (le_of_eq ?_) h1.2
      congr 2
      exact Fin.ext (show (l' : ℕ) = 128 + l' % 128 by omega)
  · intro h i hi
    exact ⟨h _ (by simp only [lane]; omega), h _ (by simp only [lane]; omega)⟩

section Max

variable (q : Vec Ideal S1x64x128 .bf16) (k : Vec Ideal S1x32768x128 .fp8e4m3)
  (cs : Vec Ideal S8x256 .f32)

theorem ofBits_bot : Ideal.ofBits .f32 0xFF800000#32 = ⊥ := by
  simp [Ideal.ofBits, Ideal.ieee]

theorem runMax_le (n : ℕ) (h : n ≤ 64) (j : Fin 16) (l : Fin 256) (b : EReal) :
    runMax q (scaleRow cs) (rowsOf k) n h (ix2 j l) ≤ b ↔
      ∀ i < n, score q k cs (headRow j (laneHead l)) (256 * i + l) ≤ b
        ∧ score q k cs (headRow j (laneHead l)) (16384 + 256 * i + l) ≤ b := by
  induction n with
  | zero =>
    rw [runMax]
    pointwise [k0_pay5]
    rw [ofBits_bot]
    exact ⟨fun _ i hi => absurd hi (Nat.not_lt_zero i), fun _ => bot_le⟩
  | succ n ih =>
    rw [runMax]
    have h1 := lo_apply q k cs n h j l
    have h2 := hi_apply q k cs n h j l
    pointwise []
    rw [max_le_iff, max_le_iff, ih, h1, h2]
    constructor
    · rintro ⟨⟨h3, h4⟩, h5⟩ i hi
      rcases Nat.lt_succ_iff_lt_or_eq.mp hi with hi | rfl
      · exact h3 i hi
      · exact ⟨h4, h5⟩
    · intro h3
      exact ⟨⟨fun i hi => h3 i (by omega), (h3 n (by omega)).1⟩, (h3 n (by omega)).2⟩

/-- The cache row of position `t` for query row `h`. -/
def ownRow (h : Fin 64) (t : Fin 8192) : ℕ := 4 * t + h / 16

/-- The maximum score of query row `h` over the cache rows of its own head. -/
def topScore (h : Fin 64) : EReal := Finset.univ.sup fun t : Fin 8192 => score q k cs h (ownRow h t)

theorem score_le_topScore (h : Fin 64) (t : Fin 8192) :
    score q k cs h (ownRow h t) ≤ topScore q k cs h :=
  Finset.le_sup (f := fun t : Fin 8192 => score q k cs h (ownRow h t)) (Finset.mem_univ t)

theorem classMax_apply (j : Fin 16) (l : Fin 128) :
    classMax (runMax q (scaleRow cs) (rowsOf k) 64 le_rfl) (ix2 j l)
      = topScore q k cs (headRow j (laneHead l)) := by
  refine eq_of_forall_ge_iff fun b => ?_
  rw [classMax_le, topScore, Finset.sup_le_iff]
  simp only [runMax_le, Finset.mem_univ, forall_const]
  have hd : (headRow j (laneHead l) : ℕ) / 16 = l % 4 := by
    simp only [headRow, laneHead]
    omega
  have hl : ∀ l' : Fin 256, (l' : ℕ) % 4 = l % 4 → laneHead l' = laneHead l :=
    fun l' e => Fin.ext e
  constructor
  · intro h t
    have h1 := h ⟨(4 * (t : ℕ) + l % 4) % 256, Nat.mod_lt _ (by norm_num)⟩ (by simp only; omega)
      ((4 * (t : ℕ) + l % 4) % 16384 / 256) (by omega)
    rw [hl _ (by simp only; omega)] at h1
    rw [ownRow, hd]
    by_cases h2 : 4 * (t : ℕ) + l % 4 < 16384
    · refine le_trans (le_of_eq (congrArg _ ?_)) h1.1
      simp only
      omega
    · refine le_trans (le_of_eq (congrArg _ ?_)) h1.2
      simp only
      omega
  · intro h l' hl' i hi
    rw [hl l' hl']
    constructor
    · refine le_trans (le_of_eq (congrArg _ ?_)) (h ⟨(256 * i + l') / 4, by omega⟩)
      rw [ownRow, hd]
      simp only
      omega
    · refine le_trans (le_of_eq (congrArg _ ?_)) (h ⟨(16384 + 256 * i + l') / 4, by omega⟩)
      rw [ownRow, hd]
      simp only
      omega

end Max

end Cert.KernelIdeal.Body
-- ==== Proof.KernelSums.lean ====
module

public import proofs.«01_k».proof.Proof.KernelMax

/-! # The kernel's sums of weights and weighted values

Lane by lane the kernel adds the weights of the cache rows it sees. Over all lanes of a head these
are the weights of the rows of that head.
-/

@[expose] public section

set_option maxRecDepth 16384

noncomputable section

namespace Cert.KernelIdeal.Body

open Idealize.ShloMosaic Cert.KernelIdeal Cert.KernelIdeal.Gen

/-- A sum over blocks of equal length. -/
theorem sum_blocks (a b : ℕ) (f : ℕ → EReal) :
    ∑ i : Fin a, ∑ l : Fin b, f (b * i + l) = ∑ r : Fin (a * b), f r := by
  rw [← Fintype.sum_prod_type']
  exact Fintype.sum_equiv finProdFinEquiv _ _ fun x => congrArg f (by simp [finProdFinEquiv, add_comm])

/-- The rows of head `g` among all rows, tile by tile. -/
theorem sum_rows (g : Fin 4) (f : ℕ → EReal) :
    ∑ i : Fin 64, (∑ l : Fin 256, (if (l : ℕ) % 4 = g then f (256 * i + l) else 0)
        + ∑ l : Fin 256, (if (l : ℕ) % 4 = g then f (16384 + 256 * i + l) else 0))
      = ∑ t : Fin 8192, f (4 * t + g) := by
  have e1 : ∑ t : Fin 8192, f (4 * t + g) = ∑ r : Fin (8192 * 4), (if (r : ℕ) % 4 = g then f r else 0) := by
    rw [← sum_blocks 8192 4 fun r => if r % 4 = g then f r else 0]
    refine Finset.sum_congr rfl fun t _ => ?_
    rw [Finset.sum_eq_single g]
    · rw [if_pos (by omega)]
    · intro l _ hl
      have : (l : ℕ) ≠ g := fun h => hl (Fin.ext h)
      rw [if_neg (by omega)]
    · intro h
      exact absurd (Finset.mem_univ g) h
  rw [e1, Finset.sum_add_distrib]
  have e2 := sum_blocks (64 + 64) 256 fun r => if r % 4 = g then f r else 0
  rw [Fin.sum_univ_add] at e2
  refine Eq.trans ?_ e2
  refine congrArg₂ _ (Finset.sum_congr rfl fun i _ => Finset.sum_congr rfl fun l _ => ?_)
    (Finset.sum_congr rfl fun i _ => Finset.sum_congr rfl fun l _ => ?_)
  · simp only [Fin.val_castAdd]
    rw [show (256 * (i : ℕ) + l) % 4 = l % 4 by omega]
  · simp only [Fin.val_natAdd]
    rw [show 256 * (64 + (i : ℕ)) + l = 16384 + 256 * i + l by omega,
      show (16384 + 256 * (i : ℕ) + l) % 4 = l % 4 by omega]

section Sums

variable (q : Vec Ideal S1x64x128 .bf16) (k v : Vec Ideal S1x32768x128 .fp8e4m3)
  (cs : Vec Ideal S8x256 .f32)

/-- The weight of cache row `r` for query row `h`. -/
def prob (h : Fin 64) (r : ℕ) : EReal := Ideal.exp (score q k cs h r - topScore q k cs h)

/-- The maximum, lane by lane. -/
def maxes : FVec Ideal S16x128 .f32 := classMax (runMax q (scaleRow cs) (rowsOf k) 64 le_rfl)

theorem twice_apply (j : Fin 16) (l : Fin 256) :
    twice (maxes q k cs) (ix2 j l) = topScore q k cs (headRow j (laneHead l)) := by
  have h : ∀ t : Fin 128, maxes q k cs (ix2 j t) = topScore q k cs (headRow j (laneHead t)) :=
    fun t => classMax_apply q k cs j t
  pointwise [twice]
  split
  · exact h _
  · rw [h]
    exact congrArg (fun g => topScore q k cs (headRow j g))
      (Fin.ext (show ((l : ℕ) - 128) % 4 = l % 4 by omega))

theorem weight_lo (n : ℕ) (h : n < 64) (j : Fin 16) (l : Fin 256) :
    weight (maxes q k cs) (tile q k cs (256 * n) (loBound h)) (ix2 j l)
      = prob q k cs (headRow j (laneHead l)) (256 * n + l) := by
  have h1 := twice_apply q k cs j l
  have h2 := tile_lo q k cs n h j l
  pointwise [weight]
  rw [h1, h2]
  rfl

theorem weight_hi (n : ℕ) (h : n < 64) (j : Fin 16) (l : Fin 256) :
    weight (maxes q k cs) (tile q k cs (16384 + 256 * n) (hiBound h)) (ix2 j l)
      = prob q k cs (headRow j (laneHead l)) (16384 + 256 * n + l) := by
  have h1 := twice_apply q k cs j l
  have h2 := tile_hi q k cs n h j l
  pointwise [weight]
  rw [h1, h2]
  rfl

theorem runSum_apply (n : ℕ) (h : n ≤ 64) (j : Fin 16) (l : Fin 256) :
    runSum (maxes q k cs) (tile q k cs) n h (ix2 j l)
      = ∑ i : Fin n, (prob q k cs (headRow j (laneHead l)) (256 * i + l)
          + prob q k cs (headRow j (laneHead l)) (16384 + 256 * i + l)) := by
  induction n with
  | zero =>
    rw [runSum]
    pointwise []
    rfl
  | succ n ih =>
    rw [runSum]
    have h1 := weight_lo q k cs n h j l
    have h2 := weight_hi q k cs n h j l
    pointwise []
    rw [ih, h1, h2, Fin.sum_univ_castSucc, add_assoc]
    rfl

theorem masked_apply (p : FVec Ideal S16x256 .f32) (g : Fin 4) (j : Fin 16) (l : Fin 256) :
    masked (BitVec.ofNat 32 g) p (ix2 j l) = if (l : ℕ) % 4 = g then p (ix2 j l) else 0 := by
  have h := select_isHead g j l
  pointwise [masked]
  exact h _ _

/-- Eight blocks of 16 rows, one above the other. -/
theorem stack_apply (t0 t1 t2 t3 t4 t5 t6 t7 : FVec Ideal S16x256 .bf16) (j : Fin 16) (l : Fin 256)
    (f : Fin 8 → EReal) (e0 : t0 (ix2 j l) = f 0) (e1 : t1 (ix2 j l) = f 1)
    (e2 : t2 (ix2 j l) = f 2) (e3 : t3 (ix2 j l) = f 3) (e4 : t4 (ix2 j l) = f 4)
    (e5 : t5 (ix2 j l) = f 5) (e6 : t6 (ix2 j l) = f 6) (e7 : t7 (ix2 j l) = f 7) (g : Fin 8) :
    concatenate S128x256 0
      [⟨S16x256, t0⟩, ⟨S16x256, t1⟩, ⟨S16x256, t2⟩, ⟨S16x256, t3⟩, ⟨S16x256, t4⟩, ⟨S16x256, t5⟩,
       ⟨S16x256, t6⟩, ⟨S16x256, t7⟩]
      concatenates_S16x256_S16x256_S16x256_S16x256_S16x256_S16x256_S16x256_S16x256_S128x256_d0
      (ix2 ⟨16 * g + j, by omega⟩ l) = f g := by
  have key : ∀ (t : FVec Ideal S16x256 .bf16) (e : Fin 8), t (ix2 j l) = f e → (g : ℕ) = e →
      ∀ (r : ℕ) (hr : r < 16), r = j → t (ix2 ⟨r, hr⟩ l) = f g := by
    intro t e h hg r hr h'
    subst h'
    obtain rfl : g = e := Fin.ext hg
    exact h
  pointwise []
  split
  · exact key t0 0 e0 (by simp only [Fin.val_zero]; omega) _ _ (by omega)
  split
  · exact key t1 1 e1 (by simp only [Fin.val_one]; omega) _ _ (by omega)
  split
  · exact key t2 2 e2 (by simp only [Fin.val_two]; omega) _ _ (by omega)
  split
  · exact key t3 ⟨3, by norm_num⟩ e3 (by simp only; omega) _ _ (by omega)
  split
  · exact key t4 ⟨4, by norm_num⟩ e4 (by simp only; omega) _ _ (by omega)
  split
  · exact key t5 ⟨5, by norm_num⟩ e5 (by simp only; omega) _ _ (by omega)
  split
  · exact key t6 ⟨6, by norm_num⟩ e6 (by simp only; omega) _ _ (by omega)
  · exact key t7 ⟨7, by norm_num⟩ e7 (by simp only; omega) _ _ (by omega)

/-- The stacked weights of two tiles. -/
theorem weights_apply (p0 p1 : FVec Ideal S16x256 .f32) (j : Fin 16) (l : Fin 256) (g : Fin 8) :
    concatenate S128x256 0
      [⟨S16x256, masked 0#32 p0⟩, ⟨S16x256, masked 1#32 p0⟩, ⟨S16x256, masked 2#32 p0⟩,
       ⟨S16x256, masked 3#32 p0⟩, ⟨S16x256, masked 0#32 p1⟩, ⟨S16x256, masked 1#32 p1⟩,
       ⟨S16x256, masked 2#32 p1⟩, ⟨S16x256, masked 3#32 p1⟩]
      concatenates_S16x256_S16x256_S16x256_S16x256_S16x256_S16x256_S16x256_S16x256_S128x256_d0
      (ix2 ⟨16 * g + j, by omega⟩ l)
    = if (l : ℕ) % 4 = (g : ℕ) % 4 then (if (g : ℕ) < 4 then p0 (ix2 j l) else p1 (ix2 j l)) else 0 :=
  stack_apply _ _ _ _ _ _ _ _ j l
    (fun g => if (l : ℕ) % 4 = (g : ℕ) % 4 then (if (g : ℕ) < 4 then p0 (ix2 j l) else p1 (ix2 j l)) else 0)
    (masked_apply p0 0 j l) (masked_apply p0 1 j l) (masked_apply p0 2 j l) (masked_apply p0 3 j l)
    (masked_apply p1 0 j l) (masked_apply p1 1 j l) (masked_apply p1 2 j l) (masked_apply p1 3 j l) g

theorem weighted_lo (p0 p1 : FVec Ideal S16x256 .f32) (a b : Vec Ideal S1x256x128 .fp8e4m3)
    (j : Fin 16) (g : Fin 4) (d : Fin 128) :
    weighted p0 p1 a b (ix2 (loRow (headRow j g)) ⟨d, by omega⟩)
      = ∑ l : Fin 256, (if (l : ℕ) % 4 = g then p0 (ix2 j l) else 0) * a (ix3 0 l d) := by
  have h : ∀ l, _ := fun l => weights_apply p0 p1 j l ⟨g, by omega⟩
  rw [weighted]
  generalize concatenate S128x256 0 _ _ = w at h ⊢
  pointwise [pair, loRow, headRow]
  refine Finset.sum_congr rfl fun l _ => congrArg (· * _) ((h l).trans ?_)
  simp only [Nat.mod_eq_of_lt g.isLt, g.isLt, if_true]

theorem weighted_hi (p0 p1 : FVec Ideal S16x256 .f32) (a b : Vec Ideal S1x256x128 .fp8e4m3)
    (j : Fin 16) (g : Fin 4) (d : Fin 128) :
    weighted p0 p1 a b (ix2 (hiRow (headRow j g)) ⟨128 + d, by omega⟩)
      = ∑ l : Fin 256, (if (l : ℕ) % 4 = g then p1 (ix2 j l) else 0) * b (ix3 0 l d) := by
  have h : ∀ l, _ := fun l => weights_apply p0 p1 j l ⟨4 + g, by omega⟩
  have e : hiRow (headRow j g) = ⟨16 * (4 + g) + j, by omega⟩ :=
    Fin.ext (by simp only [hiRow, headRow]; omega)
  rw [weighted, e]
  generalize concatenate S128x256 0 _ _ = w at h ⊢
  pointwise [pair]
  refine Finset.sum_congr rfl fun l _ => congrArg (· * _) ((h l).trans ?_)
  rw [show (4 + (g : ℕ)) % 4 = g by omega, if_neg (by omega : ¬ 4 + (g : ℕ) < 4)]

theorem laneHead_eq {l : ℕ} {g : Fin 4} (h : l % 4 = g) : laneHead l = g := Fin.ext h

theorem runAcc_lo (n : ℕ) (h : n ≤ 64) (j : Fin 16) (g : Fin 4) (d : Fin 128) :
    runAcc (maxes q k cs) (tile q k cs) (rowsOf v) n h (ix2 (loRow (headRow j g)) ⟨d, by omega⟩)
      = ∑ i : Fin n, ∑ l : Fin 256, (if (l : ℕ) % 4 = g then
          prob q k cs (headRow j g) (256 * i + l) * v (ix3 0 (cacheRow (256 * i + l)) d) else 0) := by
  induction n with
  | zero =>
    rw [runAcc]
    pointwise []
    rfl
  | succ n ih =>
    rw [runAcc]
    refine (congrArg₂ (· + ·) (ih (Nat.le_of_succ_le h)) (weighted_lo _ _ _ _ j g d)).trans ?_
    refine Eq.trans ?_ (Fin.sum_univ_castSucc _).symm
    refine congrArg₂ (fun a b : EReal => a + b) rfl (Finset.sum_congr rfl fun l _ => ?_)
    rw [weight_lo q k cs n h, rowsOf_apply]
    split
    · next hg => rw [laneHead_eq hg]; rfl
    · exact zero_mul _

theorem runAcc_hi (n : ℕ) (h : n ≤ 64) (j : Fin 16) (g : Fin 4) (d : Fin 128) :
    runAcc (maxes q k cs) (tile q k cs) (rowsOf v) n h
        (ix2 (hiRow (headRow j g)) ⟨128 + d, by omega⟩)
      = ∑ i : Fin n, ∑ l : Fin 256, (if (l : ℕ) % 4 = g then
          prob q k cs (headRow j g) (16384 + 256 * i + l)
            * v (ix3 0 (cacheRow (16384 + 256 * i + l)) d) else 0) := by
  induction n with
  | zero =>
    rw [runAcc]
    pointwise []
    rfl
  | succ n ih =>
    rw [runAcc]
    refine (congrArg₂ (· + ·) (ih (Nat.le_of_succ_le h)) (weighted_hi _ _ _ _ j g d)).trans ?_
    refine Eq.trans ?_ (Fin.sum_univ_castSucc _).symm
    refine congrArg₂ (fun a b : EReal => a + b) rfl (Finset.sum_congr rfl fun l _ => ?_)
    rw [weight_hi q k cs n h, rowsOf_apply]
    split
    · next hg => rw [laneHead_eq hg]; rfl
    · exact zero_mul _

theorem ownRow_headRow (j : Fin 16) (g : Fin 4) (t : Fin 8192) :
    ownRow (headRow j g) t = 4 * t + g := by
  simp only [ownRow, headRow]
  omega

/-- The weighted values of a query row. -/
theorem fold64_apply (j : Fin 16) (g : Fin 4) (d : Fin 128) :
    fold64 (runAcc (maxes q k cs) (tile q k cs) (rowsOf v) 64 le_rfl) (ix2 (headRow j g) d)
      = ∑ t : Fin 8192, prob q k cs (headRow j g) (ownRow (headRow j g) t)
          * v (ix3 0 (cacheRow (ownRow (headRow j g) t)) d) := by
  have h1 := runAcc_lo q k v cs 64 le_rfl j g d
  have h2 := runAcc_hi q k v cs 64 le_rfl j g d
  simp only [ownRow_headRow]
  rw [← sum_rows g fun r => prob q k cs (headRow j g) r * v (ix3 0 (cacheRow r) d),
    Finset.sum_add_distrib, ← h1, ← h2]
  pointwise [fold64]
  rfl

/-- The sum of the weights of a query row. -/
theorem fold16_apply (j : Fin 16) (g : Fin 4) :
    ∑ l : Fin 128, (if (l : ℕ) % 4 = g then
        fold16 (runSum (maxes q k cs) (tile q k cs) 64 le_rfl) (ix2 j l) else 0)
      = ∑ t : Fin 8192, prob q k cs (headRow j g) (ownRow (headRow j g) t) := by
  simp only [ownRow_headRow]
  rw [← sum_rows g fun r => prob q k cs (headRow j g) r]
  have hs : ∀ l : Fin 128, fold16 (runSum (maxes q k cs) (tile q k cs) 64 le_rfl) (ix2 j l)
      = runSum (maxes q k cs) (tile q k cs) 64 le_rfl (ix2 j ⟨l, by omega⟩)
        + runSum (maxes q k cs) (tile q k cs) 64 le_rfl (ix2 j ⟨128 + l, by omega⟩) := by
    intro l
    pointwise [fold16]
  have hr : ∑ i : Fin 64, (∑ l : Fin 256, (if (l : ℕ) % 4 = g then prob q k cs (headRow j g) (256 * i + l) else 0)
        + ∑ l : Fin 256, (if (l : ℕ) % 4 = g then prob q k cs (headRow j g) (16384 + 256 * i + l) else 0))
      = ∑ l : Fin 256, if (l : ℕ) % 4 = g then
          runSum (maxes q k cs) (tile q k cs) 64 le_rfl (ix2 j l) else 0 := by
    simp only [← Finset.sum_add_distrib]
    rw [Finset.sum_comm]
    refine Finset.sum_congr rfl fun l _ => ?_
    split
    · next hg => rw [runSum_apply, laneHead_eq hg]
    · simp only [add_zero, Finset.sum_const_zero]
  rw [hr]
  refine Eq.trans ?_ (Fin.sum_univ_add (a := 128) (b := 128) _).symm
  rw [← Finset.sum_add_distrib]
  refine Finset.sum_congr rfl fun l _ => ?_
  have e : ((Fin.natAdd 128 l : Fin 256) : ℕ) % 4 = (l : ℕ) % 4 := by
    simp only [Fin.val_natAdd]
    omega
  rw [e, hs]
  simp only [Fin.val_castAdd]
  split
  · rfl
  · exact (add_zero _).symm

end Sums

end Cert.KernelIdeal.Body
-- ==== Proof.Softmax.lean ====
/- Softmax over extended reals: rescaling a sum of exponentials from one maximum to a larger one changes nothing, so a softmax
   taken over the past first and then joined with one more term is the softmax over all of them. -/
module

public import Idealize.ShloMosaic.PureOps.Ideal.Laws

@[expose] public section

namespace Cert.Softmax

open Idealize.ShloMosaic

/-- A nonnegative real factor moves out of a sum on the right. -/
theorem sum_mul {ι : Type} (s : Finset ι) (f : ι → EReal) {a : EReal} (h0 : 0 ≤ a) (h1 : a ≠ ⊤) :
    (∑ i ∈ s, f i) * a = ∑ i ∈ s, f i * a := by
  classical
  induction s using Finset.induction_on with
  | empty => simp
  | insert i s hi ih =>
    rw [Finset.sum_insert hi, Finset.sum_insert hi, EReal.right_distrib_of_nonneg_of_ne_top h0 h1, ih]

theorem exp_coe (r : ℝ) : Ideal.exp (r : EReal) = ((Real.exp r : ℝ) : EReal) := rfl
theorem exp_bot : Ideal.exp ⊥ = 0 := rfl

theorem exp_nonneg (x : EReal) : 0 ≤ Ideal.exp x := by
  induction x with
  | bot => exact le_refl _
  | top => exact le_top
  | coe r => rw [exp_coe]; exact_mod_cast (Real.exp_pos r).le

theorem sub_top (x : EReal) : x - ⊤ = ⊥ := by rw [sub_eq_add_neg, EReal.neg_top, EReal.add_bot]
theorem bot_sub (x : EReal) : ⊥ - x = ⊥ := by rw [sub_eq_add_neg, EReal.bot_add]

/-- The exponential of a difference that is not positive is a real. -/
theorem exp_sub_ne_top {s m : EReal} (h : s ≤ m) : Ideal.exp (s - m) ≠ ⊤ := by
  induction m with
  | bot => rw [le_bot_iff.mp h, bot_sub]; exact EReal.zero_ne_top
  | top => rw [sub_top]; exact EReal.zero_ne_top
  | coe r =>
    induction s with
    | bot => rw [bot_sub]; exact EReal.zero_ne_top
    | top => exact absurd h (by simp)
    | coe u => rw [← EReal.coe_sub, exp_coe]; exact EReal.coe_ne_top _

/-- Rescaling from the maximum `m` to the larger `n`. -/
theorem exp_mul_exp {s m n : EReal} (h : s ≤ m) (h' : m ≤ n) :
    Ideal.exp (s - m) * Ideal.exp (m - n) = Ideal.exp (s - n) := by
  induction m with
  | bot => rw [le_bot_iff.mp h, bot_sub, bot_sub, exp_bot, zero_mul]
  | top => rw [top_le_iff.mp h', sub_top, exp_bot, zero_mul]
  | coe r =>
    induction s with
    | bot => rw [bot_sub, bot_sub, exp_bot, zero_mul]
    | top => exact absurd h (by simp)
    | coe u =>
      induction n with
      | bot => exact absurd h' (by simp)
      | top => rw [sub_top, sub_top, exp_bot, mul_zero]
      | coe v =>
        rw [← EReal.coe_sub, ← EReal.coe_sub, ← EReal.coe_sub, exp_coe, exp_coe, exp_coe, ← EReal.coe_mul, ← Real.exp_add]
        congr 2; ring

variable {n : ℕ}

/-- The sum of the weights. -/
theorem weights {ι : Type} [Fintype ι] (S : ι → EReal) (M N : EReal) (hM : ∀ t, S t ≤ M) (hN : M ≤ N) :
    (∑ t, Ideal.exp (S t - M)) * Ideal.exp (M - N) = ∑ t, Ideal.exp (S t - N) := by
  rw [sum_mul _ _ (exp_nonneg _) (exp_sub_ne_top hN)]
  exact Finset.sum_congr rfl fun t _ => exp_mul_exp (hM t) hN

/-- The weighted sum of the values. -/
theorem weighted {ι : Type} [Fintype ι] (S V : ι → EReal) (M N : EReal) (hM : ∀ t, S t ≤ M) (hN : M ≤ N) :
    (∑ t, Ideal.exp (S t - M) * V t) * Ideal.exp (M - N) = ∑ t, Ideal.exp (S t - N) * V t := by
  rw [sum_mul _ _ (exp_nonneg _) (exp_sub_ne_top hN)]
  refine Finset.sum_congr rfl fun t _ => ?_
  rw [mul_right_comm, exp_mul_exp (hM t) hN]

/-- A softmax over `n` scores at their own maximum `M`, joined with one more score `sn` and its value `vn` and scaled by `a` at the
    end, is the softmax over all of them with the values scaled first. -/
theorem joined {ι : Type} [Fintype ι] (S V : ι → EReal) (M sn vn a : EReal) (hM : ∀ t, S t ≤ M) (h0 : 0 ≤ a) (h1 : a ≠ ⊤) :
    Ideal.div
        (((∑ t, Ideal.exp (S t - M) * V t) * Ideal.exp (M - max M sn) + Ideal.exp (sn - max M sn) * vn) * a)
        ((∑ t, Ideal.exp (S t - M)) * Ideal.exp (M - max M sn) + Ideal.exp (sn - max M sn))
      = Ideal.div (∑ t, Ideal.exp (S t - max M sn) * (V t * a) + Ideal.exp (sn - max M sn) * (vn * a))
        (∑ t, Ideal.exp (S t - max M sn) + Ideal.exp (sn - max M sn)) := by
  rw [weights S M _ hM (le_max_left _ _), weighted S V M _ hM (le_max_left _ _),
    EReal.right_distrib_of_nonneg_of_ne_top h0 h1, sum_mul _ _ h0 h1]
  simp only [mul_assoc]

/-- A score with its scale taken out of the sum. -/
theorem score {ι : Type} [Fintype ι] (q k : ι → EReal) (a c : EReal) (h0 : 0 ≤ a) (h1 : a ≠ ⊤) :
    (∑ d, q d * (k d * a)) * c = (∑ d, q d * k d) * (a * c) := by
  rw [← mul_assoc, sum_mul _ _ h0 h1]
  simp only [mul_assoc]

/-- The quantiser's value of `x` with inverse scale `a`. -/
noncomputable def code (x a : EReal) : EReal :=
  min (Ideal.ofBits .f32 0x43E00000#32) (max (Ideal.ofBits .f32 0xC3E00000#32) (x * a))

/-- The inverse scale: one over the largest entry of the table `P` that is at most `|s|`, and 2 where `|s|` is no positive
    finite number. -/
noncomputable def inverse (P : Fin 255 → EReal) (s : EReal) : EReal :=
  Scalar.select
    (IntOp.andi (BitVec.ofBool (decide (0 < FloatOps.absf (F := Ideal) (φ := .f32) s)))
      (BitVec.ofBool (decide (FloatOps.absf (F := Ideal) (φ := .f32) s < Ideal.ofBits .f32 0x7F800000#32))))
    (Ideal.div 1 (Finset.univ.fold max (Ideal.ofBits .f32 0xFF800000#32) fun x : Fin 255 =>
      if P x ≤ FloatOps.absf (F := Ideal) (φ := .f32) s then P x else Ideal.ofBits .f32 0x00000000#32))
    (Ideal.ofBits .f32 0x40000000#32)

/-- A softmax with numerator `acc`, denominator `l` and maximum `m`, joined with one more score `s` and its value `v`, and
    scaled by `a`. -/
noncomputable def join (acc l m s v a : EReal) : EReal :=
  Ideal.div ((acc * Ideal.exp (m - max m s) + Ideal.exp (s - max m s) * v) * a)
    (l * Ideal.exp (m - max m s) + Ideal.exp (s - max m s))

/-- One element of the attention output: the query `q` against the cached keys `K` and values `V` and the new key and value. -/
noncomputable def attn {n : ℕ} (q : Fin 128 → EReal) (K : Fin n → Fin 128 → EReal) (V : Fin n → EReal)
    (kn : Fin 128 → EReal) (vn c a : EReal) : EReal :=
  join
    (∑ t, Ideal.exp ((∑ d, q d * K t d) * c - Finset.univ.sup fun t => (∑ d, q d * K t d) * c) * V t)
    (∑ t, Ideal.exp ((∑ d, q d * K t d) * c - Finset.univ.sup fun t => (∑ d, q d * K t d) * c))
    (Finset.univ.sup fun t => (∑ d, q d * K t d) * c) ((∑ d, q d * kn d) * c) vn a

/-- The maximum over all the terms is that over all but the last, and the last. -/
theorem fold_max_castSucc {n : ℕ} (f : Fin (n + 1) → EReal) :
    Finset.univ.fold max ⊥ f = max (Finset.univ.sup fun t : Fin n => f t.castSucc) (f (Fin.last n)) := by
  refine eq_of_forall_ge_iff fun b => ?_
  rw [Finset.fold_max_le, max_le_iff, Finset.sup_le_iff]
  constructor
  · rintro ⟨-, h⟩
    exact ⟨fun t _ => h _ (Finset.mem_univ _), h _ (Finset.mem_univ _)⟩
  · rintro ⟨h1, h2⟩
    refine ⟨bot_le, fun x _ => ?_⟩
    induction x using Fin.lastCases with
    | last => exact h2
    | cast t => exact h1 t (Finset.mem_univ _)

/-- The softmax over all the scores at once, keys and values scaled first. -/
theorem attn_of_all {n : ℕ} (q : Fin 128 → EReal) (k : Fin (n + 1) → Fin 128 → EReal) (V : Fin n → EReal) (vn a b c bot : EReal)
    (hbot : bot = ⊥) (a0 : 0 ≤ a) (a1 : a ≠ ⊤) (b0 : 0 ≤ b) (b1 : b ≠ ⊤) :
    Ideal.div
        (∑ t : Fin n, Ideal.exp ((∑ d, q d * (k t.castSucc d * a)) * c
            - Finset.univ.fold max bot fun x => (∑ d, q d * (k x d * a)) * c) * (V t * b)
          + Ideal.exp ((∑ d, q d * (k (Fin.last n) d * a)) * c
            - Finset.univ.fold max bot fun x => (∑ d, q d * (k x d * a)) * c) * (vn * b))
        (∑ x : Fin (n + 1), Ideal.exp ((∑ d, q d * (k x d * a)) * c
            - Finset.univ.fold max bot fun x => (∑ d, q d * (k x d * a)) * c))
      = attn q (fun t => k t.castSucc) V (k (Fin.last n)) vn (a * c) b := by
  subst hbot
  simp only [score _ _ a c a0 a1]
  rw [Fin.sum_univ_castSucc (n := n), fold_max_castSucc]
  exact (joined (fun t : Fin n => (∑ d, q d * k t.castSucc d) * (a * c)) V _ _ vn b
    (fun t => Finset.le_sup (f := fun t : Fin n => (∑ d, q d * k t.castSucc d) * (a * c)) (Finset.mem_univ t)) b0 b1).symm

end Cert.Softmax

end
-- ==== Proof.KernelValue.lean ====
module

public import proofs.«01_k».proof.Proof.KernelSums
public import proofs.«01_k».proof.Proof.Softmax

/-! # The kernel body's outputs, element by element -/

@[expose] public section

set_option maxRecDepth 16384

noncomputable section

namespace Cert.KernelIdeal.Body

open Idealize.ShloMosaic Cert.KernelIdeal Cert.KernelIdeal.Gen
open Cert.Softmax (code join attn)

theorem headCol_apply (x : Vec Ideal S4x128 .f32) (c : ℕ) (hc : c < 128)
    (h : ∀ a, (![0, c] : Fin 2 → ℕ) a + S4x1.size a ≤ S4x128.size a) (g : Fin 4) :
    headCol x c h (ix2 g 0) = x (ix2 g ⟨c, hc⟩) := by
  pointwise [headCol]

/-- Choosing by the block of 16 rows that a row lies in. -/
theorem by_rows (j : Fin 16) (g : Fin 4) (f : Fin 4 → EReal) :
    (if h : (headRow j g : ℕ) < 16 then f 0
      else if h : (headRow j g : ℕ) - 16 < 16 then f 1
      else if h : (headRow j g : ℕ) - 16 - 16 < 16 then f 2 else f 3) = f g := by
  have hd : (headRow j g : ℕ) = 16 * g + j := rfl
  split
  · exact congrArg f (Fin.ext (show (0 : ℕ) = g by omega))
  split
  · exact congrArg f (Fin.ext (show (1 : ℕ) = g by omega))
  split
  · exact congrArg f (Fin.ext (show (2 : ℕ) = g by omega))
  · exact congrArg f (Fin.ext (show (3 : ℕ) = g by omega))

/-- The weights of a head's lanes, added, in a row given by its number. -/
theorem sum_lanes (l : FVec Ideal S16x128 .f32) (j : Fin 16) (g g' : Fin 4) (hg : (g : ℕ) = g')
    (r : ℕ) (hr : r < 16) (h : r = j) :
    ∑ x : Fin 128, Scalar.select (IntOp.cmpi CmpIPredicate.eq
        (k0_pay3 (ix2 ⟨r, hr⟩ ⟨x, by omega⟩)) (BitVec.ofNat 32 g')) (l (ix2 ⟨r, hr⟩ x)) 0
      = ∑ t : Fin 128, if (t : ℕ) % 4 = g then l (ix2 j t) else 0 := by
  subst h
  obtain rfl : g = g' := Fin.ext hg
  exact Finset.sum_congr rfl fun x _ => select_isHead g j ⟨x, by omega⟩ _ _

theorem code_k (x : Vec Ideal S1x4x128 .bf16) (a : Vec Ideal S4x1 .f32) (g : Fin 4) (d : Fin 128) :
    k0_pay1189 x a (ix2 g d) = code (x (ix3 0 g d)) (a (ix2 g 0)) := by
  pointwise [k0_pay1189]
  rfl

theorem code_v (x : Vec Ideal S1x4x128 .bf16) (a : Vec Ideal S4x1 .f32) (g : Fin 4) (d : Fin 128) :
    k0_pay1191 (k0_pay1190 x) a (ix2 g d) = code (x (ix3 0 g d)) (a (ix2 g 0)) := by
  pointwise [k0_pay1191, k0_pay1190]
  rfl

theorem out8_apply (x : Vec Ideal S1x4x128 .bf16) (a : Vec Ideal S4x1 .f32) (g : Fin 4)
    (d : Fin 128) :
    k0_pay1192 (k0_pay1189 x a) (ix3 0 g d) = code (x (ix3 0 g d)) (a (ix2 g 0)) := by
  have h := code_k x a g d
  pointwise [k0_pay1192]
  exact h

theorem out9_apply (x : Vec Ideal S1x4x128 .bf16) (a : Vec Ideal S4x1 .f32) (g : Fin 4)
    (d : Fin 128) :
    k0_pay1193 (k0_pay1190 x) a (ix3 0 g d) = code (x (ix3 0 g d)) (a (ix2 g 0)) := by
  have h := code_v x a g d
  pointwise [k0_pay1193]
  exact h

theorem col_max (m : FVec Ideal S16x128 .f32) (j : Fin 16) (g : Fin 4) :
    k0_pay1187 m (ix2 (headRow j g) 0) = m (ix2 j ⟨g, by omega⟩) := by
  have key : ∀ (g' : Fin 128) (r : ℕ) (hr : r < 16), (g : ℕ) = g' → r = j →
      m (ix2 ⟨r, hr⟩ g') = m (ix2 j ⟨g, by omega⟩) := by
    intro g' r hr hg h
    subst h
    exact congrArg (fun c => m (ix2 _ c)) (Fin.ext hg.symm)
  pointwise [k0_pay1187, headRow]
  split
  · exact key 0 _ _ (by simp only [Fin.val_zero]; omega) (by omega)
  split
  · exact key 1 _ _ (by simp only [Fin.val_one]; omega) (by omega)
  split
  · exact key 2 _ _ (by simp only [Fin.val_two]; omega) (by omega)
  · exact key ⟨3, by norm_num⟩ _ _ (by simp only; omega) (by omega)

theorem col_sum (l : FVec Ideal S16x128 .f32) (j : Fin 16) (g : Fin 4) :
    k0_pay1188 l (k0_pay1186 k0_pay3) 0#32 (ix2 (headRow j g) 0)
      = ∑ t : Fin 128, if (t : ℕ) % 4 = g then l (ix2 j t) else 0 := by
  pointwise [k0_pay1188, k0_pay1186, headRow]
  split
  · exact sum_lanes l j g 0 (by simp only [Fin.val_zero]; omega) _ _ (by omega)
  split
  · exact sum_lanes l j g 1 (by simp only [Fin.val_one]; omega) _ _ (by omega)
  split
  · exact sum_lanes l j g 2 (by simp only [Fin.val_two]; omega) _ _ (by omega)
  · exact sum_lanes l j g ⟨3, by norm_num⟩ (by simp only; omega) _ _ (by omega)

theorem rows_k (c : FVec Ideal S4x128 .fp8e4m3) (j : Fin 16) (g : Fin 4) (d : Fin 128) :
    k0_pay1194 c (ix2 (headRow j g) d) = c (ix2 g d) := by
  refine Eq.trans ?_ (by_rows j g fun g => c (ix2 g d))
  pointwise [k0_pay1194]

theorem rows_v (x : FVec Ideal S4x128 .bf16) (a : Vec Ideal S4x1 .f32) (j : Fin 16) (g : Fin 4)
    (d : Fin 128) :
    k0_pay1195 x a (ix2 (headRow j g) d) = k0_pay1191 x a (ix2 g d) := by
  refine Eq.trans ?_ (by_rows j g fun g => k0_pay1191 x a (ix2 g d))
  rw [k0_pay1195]
  generalize k0_pay1191 x a = c
  pointwise []

theorem joined_apply (q : FVec Ideal S64x128 .bf16) (acc : FVec Ideal S64x128 .f32)
    (m l : FVec Ideal S64x1 .f32) (kr vr : FVec Ideal S64x128 .f32) (c a : Vec Ideal S4x1 .f32)
    (j : Fin 16) (g : Fin 4) (d : Fin 128) :
    k0_pay1197 q acc m l kr vr c a (ix3 0 (headRow j g) d)
      = join (acc (ix2 (headRow j g) d)) (l (ix2 (headRow j g) 0)) (m (ix2 (headRow j g) 0))
          ((∑ e : Fin 128, q (ix2 (headRow j g) e) * kr (ix2 (headRow j g) e)) * c (ix2 g 0))
          (vr (ix2 (headRow j g) d)) (a (ix2 g 0)) := by
  have hc := by_rows j g fun g => c (ix2 g 0)
  have ha := by_rows j g fun g => a (ix2 g 0)
  pointwise [k0_pay1197]
  simp only [show (3 : Fin 4) = ⟨3, by norm_num⟩ from rfl] at hc ha ⊢
  rw [hc, ha]
  rfl

theorem q_apply (q : Vec Ideal S1x64x128 .bf16) (h : Fin 64) (d : Fin 128) :
    k0_pay1 q (ix2 h d) = q (ix3 0 h d) := by
  pointwise [k0_pay1]

section Value

variable (q : Vec Ideal S1x64x128 .bf16) (kn vn : Vec Ideal S1x4x128 .bf16)
  (k v : Vec Ideal S1x32768x128 .fp8e4m3) (cs : Vec Ideal S8x256 .f32) (hs : Vec Ideal S4x128 .f32)

/-- The attention output at query row `headRow j g`. -/
theorem attended_apply (j : Fin 16) (g : Fin 4) (d : Fin 128) :
    attended q kn vn (scaleRow cs) (rowsOf k) (rowsOf v) (tile q k cs)
        (headCol hs 0 inb_S4x128_S4x1_0_0) (headCol hs 1 inb_S4x128_S4x1_0_1)
        (headCol hs 2 inb_S4x128_S4x1_0_2) (headCol hs 3 inb_S4x128_S4x1_0_3)
        (ix3 0 (headRow j g) d)
      = join
          (∑ t : Fin 8192, prob q k cs (headRow j g) (ownRow (headRow j g) t)
            * v (ix3 0 (cacheRow (ownRow (headRow j g) t)) d))
          (∑ t : Fin 8192, prob q k cs (headRow j g) (ownRow (headRow j g) t))
          (topScore q k cs (headRow j g))
          ((∑ e : Fin 128, q (ix3 0 (headRow j g) e) * code (kn (ix3 0 g e)) (hs (ix2 g 0)))
            * hs (ix2 g 2))
          (code (vn (ix3 0 g d)) (hs (ix2 g 1))) (hs (ix2 g 3)) := by
  have hl : laneHead (⟨g, by omega⟩ : Fin 128) = g := Fin.ext (Nat.mod_eq_of_lt g.isLt)
  have hm : k0_pay1196 (headCol hs 2 inb_S4x128_S4x1_0_2) (ix2 g 0) = hs (ix2 g 2) := by
    have h := headCol_apply hs 2 (by norm_num) inb_S4x128_S4x1_0_2 g
    pointwise [k0_pay1196]
    exact h
  rw [attended, joined_apply, hm]
  simp only [q_apply, rows_k, rows_v, code_k, code_v]
  rw [headCol_apply hs 0 (by norm_num), headCol_apply hs 1 (by norm_num),
    headCol_apply hs 3 (by norm_num), col_max, col_sum]
  have h1 := fold64_apply q k v cs j g d
  have h2 := fold16_apply q k cs j g
  have h3 := classMax_apply q k cs j ⟨g, by omega⟩
  rw [hl] at h3
  rw [maxes] at h1 h2
  rw [h1, h2, h3]
  rfl

/-- The same, where the score scales of the lanes are the heads'. -/
theorem attended_attn (C : Fin 4 → EReal) (hC : ∀ l : Fin 256, cs (ix2 0 l) = C (laneHead l))
    (j : Fin 16) (g : Fin 4) (d : Fin 128) (hg : hs (ix2 g 2) = C g) :
    attended q kn vn (scaleRow cs) (rowsOf k) (rowsOf v) (tile q k cs)
        (headCol hs 0 inb_S4x128_S4x1_0_0) (headCol hs 1 inb_S4x128_S4x1_0_1)
        (headCol hs 2 inb_S4x128_S4x1_0_2) (headCol hs 3 inb_S4x128_S4x1_0_3)
        (ix3 0 (headRow j g) d)
      = attn (fun e => q (ix3 0 (headRow j g) e)) (fun (t : Fin 8192) e => k (ix3 0 (cacheRow (4 * t + g)) e))
          (fun t => v (ix3 0 (cacheRow (4 * t + g)) d))
          (fun e => code (kn (ix3 0 g e)) (hs (ix2 g 0))) (code (vn (ix3 0 g d)) (hs (ix2 g 1)))
          (C g) (hs (ix2 g 3)) := by
  have hr : ∀ t : Fin 8192, score q k cs (headRow j g) (4 * t + g)
      = (∑ e, q (ix3 0 (headRow j g) e) * k (ix3 0 (cacheRow (4 * t + g)) e)) * C g := by
    intro t
    have hl : laneHead ((4 * (t : ℕ) + g) % 256) = g :=
      Fin.ext (show (4 * (t : ℕ) + g) % 256 % 4 = g by omega)
    rw [score, hC]
    exact congrArg (fun x => _ * C x) hl
  rw [attended_apply, attn, topScore, hg]
  simp only [prob, topScore, ownRow_headRow, hr]

end Value

end Cert.KernelIdeal.Body
-- ==== Proof.KernelArrays.lean ====
module

public import proofs.«01_k».proof.Proof.Gen.KernelIdeal.Frame
public import proofs.«01_k».proof.Proof.Softmax
public import Idealize.ShloMosaic.Lib.StableHlo.ReadAt
public import Idealize.ShloMosaic.Lib.Pointwise
public import Idealize.ShloMosaic.Lib.Pipeline.ValueKit

/-! # The arrays that the kernel's blocks are cut from, element by element -/

@[expose] public section

set_option maxRecDepth 16384

noncomputable section

namespace Cert.KernelIdeal.Arrays

open Idealize.ShloMosaic Idealize.ShloMosaic.TcCoe Cert.KernelIdeal Cert.KernelIdeal.Gen
open Cert.Softmax (inverse)

variable (m : (ℓ : Loc nD τ sig) → Buf (Elt Ideal) ℓ) (c : Dev nD)

/-- The table of powers of two. -/
def powers (x : Fin 255) : EReal := Ideal.ofBits .f32 (lit0 (S255.rowMajor (ix1 x)))

/-- The queries. -/
theorem q_at (b h : Fin 64) (d : Fin 128) :
    V m c main_v1 (ix3 b h d) = m ((c : Thread nD τ).loc main_arg0) (ix3 b 0 ⟨(h : ℕ) * 128 + d, by omega⟩) := by
  unfold V hostOps0 hostOps0_1 hostOps0_2 hostOps0_3 hostOps0_4 hostOps0_5 hostOps0_6 hostOps0_7 hostOps0_8 hostOps0_9
  simp only [List.flatten_cons, List.flatten_nil, List.cons_append, List.nil_append, List.append_nil]
  after_reads_at

/-- The new keys. -/
theorem kn_at (b : Fin 64) (g : Fin 4) (d : Fin 128) :
    V m c main_v4 (ix3 b g d) = m ((c : Thread nD τ).loc main_arg1) (ix4 b 0 g d) := by
  unfold V hostOps0 hostOps0_1 hostOps0_2 hostOps0_3 hostOps0_4 hostOps0_5 hostOps0_6 hostOps0_7 hostOps0_8 hostOps0_9
  simp only [List.flatten_cons, List.flatten_nil, List.cons_append, List.nil_append, List.append_nil]
  after_reads_at

/-- The new values. -/
theorem vn_at (b : Fin 64) (g : Fin 4) (d : Fin 128) :
    V m c main_v5 (ix3 b g d) = m ((c : Thread nD τ).loc main_arg2) (ix4 b 0 g d) := by
  unfold V hostOps0 hostOps0_1 hostOps0_2 hostOps0_3 hostOps0_4 hostOps0_5 hostOps0_6 hostOps0_7 hostOps0_8 hostOps0_9
  simp only [List.flatten_cons, List.flatten_nil, List.cons_append, List.nil_append, List.append_nil]
  after_reads_at

/-- The cached keys. -/
theorem k_at (b : Fin 64) (r : Fin 32768) (d : Fin 128) :
    V m c main_v2 (ix3 b r d) = m ((c : Thread nD τ).loc main_arg3) (ix4 b ⟨(r : ℕ) / 4, by omega⟩ ⟨(r : ℕ) % 4, by omega⟩ d) := by
  unfold V hostOps0 hostOps0_1 hostOps0_2 hostOps0_3 hostOps0_4 hostOps0_5 hostOps0_6 hostOps0_7 hostOps0_8 hostOps0_9
  simp only [List.flatten_cons, List.flatten_nil, List.cons_append, List.nil_append, List.append_nil]
  after_reads_at

/-- The cached values. -/
theorem v_at (b : Fin 64) (r : Fin 32768) (d : Fin 128) :
    V m c main_v3 (ix3 b r d) = m ((c : Thread nD τ).loc main_arg5) (ix4 b ⟨(r : ℕ) / 4, by omega⟩ ⟨(r : ℕ) % 4, by omega⟩ d) := by
  unfold V hostOps0 hostOps0_1 hostOps0_2 hostOps0_3 hostOps0_4 hostOps0_5 hostOps0_6 hostOps0_7 hostOps0_8 hostOps0_9
  simp only [List.flatten_cons, List.flatten_nil, List.cons_append, List.nil_append, List.append_nil]
  after_reads_at

/-- The score scales, lane by lane. -/
theorem col_at (i : Fin 8) (l : Fin 256) :
    V m c main_v16 (ix2 i l) = (show EReal from m ((c : Thread nD τ).loc main_arg4) (ix1 ⟨(l : ℕ) % 4, by omega⟩)) * Ideal.ofBits .f32 0x3DB504F3#32 := by
  unfold V hostOps0 hostOps0_1 hostOps0_2 hostOps0_3 hostOps0_4 hostOps0_5 hostOps0_6 hostOps0_7 hostOps0_8 hostOps0_9
  simp only [List.flatten_cons, List.flatten_nil, List.cons_append, List.nil_append, List.append_nil]
  after_reads_at

/-- The keys' inverse scale. -/
theorem head0_at (g : Fin 4) :
    V m c main_v52 (ix2 g 0) = inverse powers (m ((c : Thread nD τ).loc main_arg4) (ix1 g)) := by
  unfold V hostOps0 hostOps0_1 hostOps0_2 hostOps0_3 hostOps0_4 hostOps0_5 hostOps0_6 hostOps0_7 hostOps0_8 hostOps0_9
  simp only [List.flatten_cons, List.flatten_nil, List.cons_append, List.nil_append, List.append_nil]
  after_reads_at
  after_reads_at
  rfl

/-- The values' inverse scale. -/
theorem head1_at (g : Fin 4) :
    V m c main_v52 (ix2 g 1) = inverse powers (m ((c : Thread nD τ).loc main_arg6) (ix1 g)) := by
  unfold V hostOps0 hostOps0_1 hostOps0_2 hostOps0_3 hostOps0_4 hostOps0_5 hostOps0_6 hostOps0_7 hostOps0_8 hostOps0_9
  simp only [List.flatten_cons, List.flatten_nil, List.cons_append, List.nil_append, List.append_nil]
  after_reads_at
  after_reads_at
  rfl

/-- The scores' scale. -/
theorem head2_at (g : Fin 4) :
    V m c main_v52 (ix2 g 2) = (show EReal from m ((c : Thread nD τ).loc main_arg4) (ix1 g)) * Ideal.ofBits .f32 0x3DB504F3#32 := by
  unfold V hostOps0 hostOps0_1 hostOps0_2 hostOps0_3 hostOps0_4 hostOps0_5 hostOps0_6 hostOps0_7 hostOps0_8 hostOps0_9
  simp only [List.flatten_cons, List.flatten_nil, List.cons_append, List.nil_append, List.append_nil]
  after_reads_at
  after_reads_at

/-- The values' scale. -/
theorem head3_at (g : Fin 4) :
    V m c main_v52 (ix2 g 3) = m ((c : Thread nD τ).loc main_arg6) (ix1 g) := by
  unfold V hostOps0 hostOps0_1 hostOps0_2 hostOps0_3 hostOps0_4 hostOps0_5 hostOps0_6 hostOps0_7 hostOps0_8 hostOps0_9
  simp only [List.flatten_cons, List.flatten_nil, List.cons_append, List.nil_append, List.append_nil]
  after_reads_at
  after_reads_at

end Cert.KernelIdeal.Arrays
-- ==== Proof.Results.lean ====
module

public import Idealize.ShloMosaic.Lib.Pointwise
public import proofs.«01_k».proof.Proof.Softmax

/-! # The values both programs return, from the arguments

`P` is the table of powers of two from which the quantiser's inverse scale is taken. -/

@[expose] public section

noncomputable section

namespace Cert.Results

open Idealize.ShloMosaic
open Cert.Softmax (attn code inverse)

/-- The shape of the queries. -/
abbrev Q : Shape := ⟨3, ![64, 1, 8192]⟩
/-- The shape of the new keys and of the new values. -/
abbrev N : Shape := ⟨4, ![64, 1, 4, 128]⟩
/-- The shape of either cache. -/
abbrev C : Shape := ⟨4, ![64, 8192, 4, 128]⟩
/-- The shape of the scales, one for each group of heads. -/
abbrev S : Shape := ⟨1, ![4]⟩

/-- The code of a new key or value `x`, at batch `b`, group `g` and position `d`. -/
def codeAt (P : Fin 255 → EReal) (x : N.Idx → EReal) (s : S.Idx → EReal) (b : Fin 64) (g : Fin 4) (d : Fin 128) : EReal :=
  code (x (ix4 b 0 g d)) (inverse P (s (ix1 g)))

/-- The attention of batch `b` and head `h`, at position `d`; head `h` belongs to group `h / 16`. -/
def yAt (P : Fin 255 → EReal) (q : Q.Idx → EReal) (kn vn : N.Idx → EReal) (k : C.Idx → EReal) (ks : S.Idx → EReal)
    (v : C.Idx → EReal) (vs : S.Idx → EReal) (b h : Fin 64) (d : Fin 128) : EReal :=
  attn (fun e : Fin 128 => q (ix3 b 0 ⟨(h : ℕ) * 128 + e, by omega⟩))
    (fun (t : Fin 8192) e => k (ix4 b t ⟨(h : ℕ) / 16, by omega⟩ e))
    (fun t => v (ix4 b t ⟨(h : ℕ) / 16, by omega⟩ d))
    (fun e => codeAt P kn ks b ⟨(h : ℕ) / 16, by omega⟩ e)
    (codeAt P vn vs b ⟨(h : ℕ) / 16, by omega⟩ d)
    (ks (ix1 ⟨(h : ℕ) / 16, by omega⟩) * Ideal.ofBits .f32 0x3DB504F3#32)
    (vs (ix1 ⟨(h : ℕ) / 16, by omega⟩))

/-- The codes as an array. -/
def codes (P : Fin 255 → EReal) (x : N.Idx → EReal) (s : S.Idx → EReal) : (⟨3, ![64, 4, 128]⟩ : Shape).Idx → EReal :=
  fun i => codeAt P x s (i 0) (i 1) (i 2)

/-- The attention as an array. -/
def ys (P : Fin 255 → EReal) (q : Q.Idx → EReal) (kn vn : N.Idx → EReal) (k : C.Idx → EReal) (ks : S.Idx → EReal)
    (v : C.Idx → EReal) (vs : S.Idx → EReal) : (⟨3, ![64, 64, 128]⟩ : Shape).Idx → EReal :=
  fun i => yAt P q kn vn k ks v vs (i 0) (i 1) (i 2)

/-- The attention of equal arguments. -/
theorem attn_congr {n : ℕ} {q q' : Fin 128 → EReal} {K K' : Fin n → Fin 128 → EReal} {V V' : Fin n → EReal}
    {kn kn' : Fin 128 → EReal} {vn vn' c c' a a' : EReal} (hq : ∀ e, q e = q' e) (hK : ∀ t e, K t e = K' t e)
    (hV : ∀ t, V t = V' t) (hk : ∀ e, kn e = kn' e) (hv : vn = vn') (hc : c = c') (ha : a = a') :
    attn q K V kn vn c a = attn q' K' V' kn' vn' c' a' := by
  obtain rfl : q = q' := funext hq
  obtain rfl : K = K' := funext fun t => funext (hK t)
  obtain rfl : V = V' := funext hV
  obtain rfl : kn = kn' := funext hk
  rw [hv, hc, ha]

/-- The codes of equal arguments. -/
theorem codes_congr {P P' : Fin 255 → EReal} {x x' : N.Idx → EReal} {s s' : S.Idx → EReal} (hP : P = P') (hx : x = x') (hs : s = s') :
    codes P x s = codes P' x' s' := by
  subst hP hx hs
  rfl

/-- The attention arrays of equal arguments. -/
theorem ys_congr {P P' : Fin 255 → EReal} {q q' : Q.Idx → EReal} {kn kn' vn vn' : N.Idx → EReal} {k k' v v' : C.Idx → EReal}
    {ks ks' vs vs' : S.Idx → EReal} (hP : P = P') (hq : q = q') (hkn : kn = kn') (hvn : vn = vn') (hk : k = k') (hks : ks = ks')
    (hv : v = v') (hvs : vs = vs') : ys P q kn vn k ks v vs = ys P' q' kn' vn' k' ks' v' vs' := by
  subst hP hq hkn hvn hk hks hv hvs
  rfl

end Cert.Results

end
-- ==== Proof.KernelFinal.lean ====
module

public import proofs.«01_k».proof.Proof.Gen.KernelIdeal.Value
public import proofs.«01_k».proof.Proof.KernelValue
public import proofs.«01_k».proof.Proof.KernelLoads
public import proofs.«01_k».proof.Proof.KernelArrays
public import proofs.«01_k».proof.Proof.Results

/-! # The kernel's arrays after the run -/

@[expose] public section

set_option maxRecDepth 16384

noncomputable section

namespace Cert.KernelIdeal.Final

open Idealize.ShloMosaic Idealize.ShloMosaic.TcCoe Cert.KernelIdeal Cert.KernelIdeal.Gen
open Cert.Softmax (code inverse attn)
open Cert.KernelIdeal.Arrays
open Cert.Results

variable (m : (ℓ : Loc nD τ sig) → Buf (Elt Ideal) ℓ) (c : Dev nD)

/-- Where each window's block starts. -/
theorem idx : ∀ t : Fin cfg0.N,
    win0_0.index t = ![(grid0.coords t 0).val, 0, 0] ∧ win0_1.index t = ![(grid0.coords t 0).val, 0, 0]
      ∧ win0_2.index t = ![(grid0.coords t 0).val, 0, 0] ∧ win0_3.index t = ![(grid0.coords t 0).val, 0, 0]
      ∧ win0_4.index t = ![(grid0.coords t 0).val, 0, 0] ∧ win0_5.index t = ![0, 0] ∧ win0_6.index t = ![0, 0]
      ∧ win0_7.index t = ![(grid0.coords t 0).val, 0, 0] ∧ win0_8.index t = ![(grid0.coords t 0).val, 0, 0]
      ∧ win0_9.index t = ![(grid0.coords t 0).val, 0, 0] :=
  (by decide +kernel : ∀ t : Fin grid0.N, _)

/-- The batch of a grid point. -/
def batch (t : Fin cfg0.N) : Fin 64 := ⟨(grid0.coords t 0).val, (grid0.coords t 0).isLt⟩

/-- The block of queries. -/
theorem q_blk (t : Fin cfg0.N) (h : Fin 64) (d : Fin 128) :
    iblk m c 0 t (ix3 0 h d) = V m c main_v1 (ix3 (batch t) h d) := by
  blk_ext [iblk, idx t]
  rfl

/-- The block of new keys. -/
theorem kn_blk (t : Fin cfg0.N) (g : Fin 4) (d : Fin 128) :
    iblk m c 1 t (ix3 0 g d) = V m c main_v4 (ix3 (batch t) g d) := by
  blk_ext [iblk, idx t]
  rfl

/-- The block of new values. -/
theorem vn_blk (t : Fin cfg0.N) (g : Fin 4) (d : Fin 128) :
    iblk m c 2 t (ix3 0 g d) = V m c main_v5 (ix3 (batch t) g d) := by
  blk_ext [iblk, idx t]
  rfl

/-- The block of cached keys. -/
theorem k_blk (t : Fin cfg0.N) (r : Fin 32768) (d : Fin 128) :
    iblk m c 3 t (ix3 0 r d) = V m c main_v2 (ix3 (batch t) r d) := by
  blk_ext [iblk, idx t]
  rfl

/-- The block of cached values. -/
theorem v_blk (t : Fin cfg0.N) (r : Fin 32768) (d : Fin 128) :
    iblk m c 4 t (ix3 0 r d) = V m c main_v3 (ix3 (batch t) r d) := by
  blk_ext [iblk, idx t]
  rfl

/-- The score scales, which every point reads whole. -/
theorem col_blk (t : Fin cfg0.N) (i : Fin 8) (l : Fin 256) :
    iblk m c 5 t (ix2 i l) = V m c main_v16 (ix2 i l) := by
  blk_ext [iblk, idx t]

/-- The head scales, which every point reads whole. -/
theorem head_blk (t : Fin cfg0.N) (g : Fin 4) (l : Fin 128) :
    iblk m c 6 t (ix2 g l) = V m c main_v52 (ix2 g l) := by
  blk_ext [iblk, idx t]

/-- Where an element of an attention block lies in the array. -/
theorem emb7 (t : Fin cfg0.N) (h : Fin 64) (d : Fin 128) : (win0_7.blk t).view.emb (ix3 0 h d) = ix3 (batch t) h d := by
  blk_ext [idx t]
  rfl

/-- Where an element of a block of key codes lies in the array. -/
theorem emb8 (t : Fin cfg0.N) (g : Fin 4) (d : Fin 128) : (win0_8.blk t).view.emb (ix3 0 g d) = ix3 (batch t) g d := by
  blk_ext [idx t]
  rfl

/-- Where an element of a block of value codes lies in the array. -/
theorem emb9 (t : Fin cfg0.N) (g : Fin 4) (d : Fin 128) : (win0_9.blk t).view.emb (ix3 0 g d) = ix3 (batch t) g d := by
  blk_ext [idx t]
  rfl

/-- An index of a block with one batch. -/
theorem ix_one {n : ℕ} (y : (⟨3, ![1, n, 128]⟩ : Shape).Idx) : ∃ (h : Fin n) (d : Fin 128), y = ix3 0 h d :=
  ⟨y 1, y 2, by
    funext a
    match a with
    | ⟨0, _⟩ => exact Subsingleton.elim (α := Fin 1) _ _
    | ⟨1, _⟩ => rfl
    | ⟨2, _⟩ => rfl⟩

/-- A head by its group and its place in the group. -/
theorem headRow_split (h : Fin 64) : h = Body.headRow ⟨(h : ℕ) % 16, by omega⟩ ⟨(h : ℕ) / 16, by omega⟩ :=
  Fin.ext (by show (h : ℕ) = 16 * ((h : ℕ) / 16) + (h : ℕ) % 16; omega)

/-- The new keys' codes. -/
theorem codes_k : (dats m 0 c).arrAt 8 cfg0.N
    = codes powers (m ((c : Thread nD τ).loc main_arg1)) (m ((c : Thread nD τ).loc main_arg4)) := by
  refine (dats m 0 c).arrAt_eq_of_covers 8 _ (by decide +kernel) fun t _ y => ?_
  blk_simp
  obtain ⟨g, d, rfl⟩ := ix_one y
  rw [after0_8, emb8]
  dsimp only [outsAt0]
  rw [Body.out8_eq, Body.out8_apply, Body.headCol_apply _ 0 (by omega), kn_blk, head_blk, kn_at]
  exact congrArg (code _) (head0_at m c g)

/-- The new values' codes. -/
theorem codes_v : (dats m 0 c).arrAt 9 cfg0.N
    = codes powers (m ((c : Thread nD τ).loc main_arg2)) (m ((c : Thread nD τ).loc main_arg6)) := by
  refine (dats m 0 c).arrAt_eq_of_covers 9 _ (by decide +kernel) fun t _ y => ?_
  blk_simp
  obtain ⟨g, d, rfl⟩ := ix_one y
  rw [after0_9, emb9]
  dsimp only [outsAt0]
  rw [Body.out9_eq, Body.out9_apply, Body.headCol_apply _ 1 (by omega), vn_blk, head_blk, vn_at]
  exact congrArg (code _) (head1_at m c g)

/-- A cached key, by its position and group. -/
theorem k_row (t : Fin cfg0.N) (x : Fin 8192) (g : Fin 4) (d : Fin 128) :
    iblk m c 3 t (ix3 0 (Body.cacheRow (4 * x + g)) d) = m ((c : Thread nD τ).loc main_arg3) (ix4 (batch t) x g d) := by
  rw [k_blk, k_at]
  refine congrArg (m _) ?_
  have h : ((Body.cacheRow (4 * x + g) : Fin 32768) : ℕ) = 4 * x + g := Nat.mod_eq_of_lt (by omega)
  exact congrArg₂ (fun a b => ix4 (batch t) a b d) (Fin.ext (by simp only [h]; omega)) (Fin.ext (by simp only [h]; omega))

/-- A cached value, by its position and group. -/
theorem v_row (t : Fin cfg0.N) (x : Fin 8192) (g : Fin 4) (d : Fin 128) :
    iblk m c 4 t (ix3 0 (Body.cacheRow (4 * x + g)) d) = m ((c : Thread nD τ).loc main_arg5) (ix4 (batch t) x g d) := by
  rw [v_blk, v_at]
  refine congrArg (m _) ?_
  have h : ((Body.cacheRow (4 * x + g) : Fin 32768) : ℕ) = 4 * x + g := Nat.mod_eq_of_lt (by omega)
  exact congrArg₂ (fun a b => ix4 (batch t) a b d) (Fin.ext (by simp only [h]; omega)) (Fin.ext (by simp only [h]; omega))

/-- One element of a block of the attention output. -/
theorem y_blk (t : Fin cfg0.N) (h : Fin 64) (d : Fin 128) (j : Fin 16) (g : Fin 4) (hh : h = Body.headRow j g) (hg : g = ⟨(h : ℕ) / 16, by omega⟩) :
    (outsAt0 m c t).1 (ix3 0 h d)
      = yAt powers (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (batch t) h d := by
  dsimp only [outsAt0]
  unfold yAt
  rw [← hg, hh, Body.out7_eq, Body.attended_attn _ _ _ _ _ _ _
    (fun g => (show EReal from m ((c : Thread nD τ).loc main_arg4) (ix1 g)) * Ideal.ofBits .f32 0x3DB504F3#32)
    (fun l => (col_blk m c t 0 l).trans (col_at m c 0 l)) j g d ((head_blk m c t g 2).trans (head2_at m c g))]
  exact attn_congr (fun e => (q_blk m c t _ e).trans (q_at m c _ _ e)) (fun x e => k_row m c t x g e) (fun x => v_row m c t x g d)
    (fun e => congrArg₂ code ((kn_blk m c t g e).trans (kn_at m c _ g e)) ((head_blk m c t g 0).trans (head0_at m c g)))
    (congrArg₂ code ((vn_blk m c t g d).trans (vn_at m c _ g d)) ((head_blk m c t g 1).trans (head1_at m c g))) rfl
    ((head_blk m c t g 3).trans (head3_at m c g))

/-- The attention output. -/
theorem y : (dats m 0 c).arrAt 7 cfg0.N
    = ys powers (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 7 _ (by decide +kernel) fun t _ y => ?_
  blk_simp
  obtain ⟨h, d, rfl⟩ := ix_one y
  rw [after0_7, emb7]
  exact y_blk m c t h d _ _ (headRow_split h) rfl

end Cert.KernelIdeal.Final

end
-- ==== Proof.RefBody.lean ====
module

public import proofs.«01_k».proof.Proof.Gen.ReferenceIdeal.Frame
public import proofs.«01_k».proof.Proof.Softmax
public import Idealize.ShloMosaic.Lib.Pointwise

/-! # The reference body's outputs, element by element -/

@[expose] public section

set_option maxRecDepth 16384

noncomputable section

namespace Cert.ReferenceIdeal.Body

open Idealize.ShloMosaic Cert.ReferenceIdeal Cert.ReferenceIdeal.Gen
open Cert.Softmax (code attn attn_of_all)

theorem ofBits_bot : Ideal.ofBits .f32 0xFF800000#32 = ⊥ := by
  simp [Ideal.ofBits, Ideal.ieee]

theorem last_eq : (8192 : Fin 8193) = Fin.last 8192 := rfl

/-- The attention output at a query row, where `r` is its batch and head, and `j` its place in the head's group. -/
theorem attend (vn : FVec Ideal S256x1x128 .fp8e4m3) (k : FVec Ideal S256x8193x128 .bf16)
    (ks vs : Vec Ideal S256x1x1 .bf16) (vc : Vec Ideal S256x8192x128 .fp8e4m3)
    (q : Vec Ideal S256x16x128 .bf16) (b h : Fin 64) (d : Fin 128) (r : Fin 256) (j : Fin 16)
    (hr : r = ⟨(b : ℕ) * 4 + (h : ℕ) / 16, by omega⟩) (hj : j = ⟨(h : ℕ) % 16, by omega⟩)
    (k0 : 0 ≤ ks (ix3 r 0 0)) (k1 : ks (ix3 r 0 0) ≠ ⊤) (v0 : 0 ≤ vs (ix3 r 0 0)) (v1 : vs (ix3 r 0 0) ≠ ⊤) :
    k0_pay1 vn k ks vc vs q (ix3 b h d)
      = attn (fun e => q (ix3 r j e)) (fun t e => k (ix3 r t.castSucc e)) (fun t => vc (ix3 r t d))
          (fun e => k (ix3 r (Fin.last 8192) e)) (vn (ix3 r 0 d))
          (ks (ix3 r 0 0) * Ideal.ofBits .f32 0x3DB504F3#32) (vs (ix3 r 0 0)) := by
  subst hr hj
  refine Eq.trans ?_ (attn_of_all (fun e => q (ix3 _ _ e)) (fun x e => k (ix3 _ x e)) _ _
    _ _ _ _ ofBits_bot k0 k1 v0 v1)
  pointwise [k0_pay1]
  refine congrArg₂ Ideal.div (congrArg₂ (fun a b : EReal => a + b) ?_ ?_) ?_
  · exact Finset.sum_congr rfl fun t _ => rfl
  · rw [← last_eq]
    exact Fin.sum_univ_one _
  · exact Finset.sum_congr rfl fun t _ => rfl

/-- The quantised keys and values. -/
theorem code_k (x : Vec Ideal S256x1x128 .bf16) (a : Vec Ideal S256x1x1 .f32) (r : Fin 256) (d : Fin 128) :
    k0_pay2 x a (ix3 r 0 d) = code (x (ix3 r 0 d)) (a (ix3 r 0 0)) := by
  pointwise [k0_pay2]
  rfl

theorem code_v (x : Vec Ideal S256x1x128 .bf16) (a : Vec Ideal S256x1x1 .f32) (r : Fin 256) (d : Fin 128) :
    k0_pay3 x a (ix3 r 0 d) = code (x (ix3 r 0 d)) (a (ix3 r 0 0)) := by
  pointwise [k0_pay3]
  rfl

theorem out_k (x : Vec Ideal S256x1x128 .bf16) (a : Vec Ideal S256x1x1 .f32) (b : Fin 64) (g : Fin 4)
    (d : Fin 128) (r : Fin 256) (hr : r = ⟨(b : ℕ) * 4 + g, by omega⟩) :
    k0_pay4 x a (ix3 b g d) = code (x (ix3 r 0 d)) (a (ix3 r 0 0)) := by
  subst hr
  rw [← code_k]
  pointwise [k0_pay4]

theorem out_v (x : Vec Ideal S256x1x128 .bf16) (a : Vec Ideal S256x1x1 .f32) (b : Fin 64) (g : Fin 4)
    (d : Fin 128) (r : Fin 256) (hr : r = ⟨(b : ℕ) * 4 + g, by omega⟩) :
    k0_pay5 x a (ix3 b g d) = code (x (ix3 r 0 d)) (a (ix3 r 0 0)) := by
  subst hr
  rw [← code_v]
  pointwise [k0_pay5]

/-- The keys: the cached ones, then the new one. -/
theorem keys (x : Vec Ideal S256x1x128 .bf16) (a : Vec Ideal S256x1x1 .f32)
    (kc : Vec Ideal S256x8192x128 .fp8e4m3) (r : Fin 256) (t : Fin 8193) (d : Fin 128) :
    k0_pay6 x a kc (ix3 r t d)
      = if h : (t : ℕ) < 8192 then kc (ix3 r ⟨t, h⟩ d) else code (x (ix3 r 0 d)) (a (ix3 r 0 0)) := by
  rw [← code_k]
  pointwise [k0_pay6]
  split
  · rfl
  · exact congrArg (fun i => k0_pay2 x a (ix3 r i d)) (Subsingleton.elim _ _)

theorem keys_cast (x : Vec Ideal S256x1x128 .bf16) (a : Vec Ideal S256x1x1 .f32)
    (kc : Vec Ideal S256x8192x128 .fp8e4m3) (r : Fin 256) (t : Fin 8192) (d : Fin 128) :
    k0_pay6 x a kc (ix3 r t.castSucc d) = kc (ix3 r t d) := by
  rw [keys]
  exact dif_pos t.isLt

theorem keys_last (x : Vec Ideal S256x1x128 .bf16) (a : Vec Ideal S256x1x1 .f32)
    (kc : Vec Ideal S256x8192x128 .fp8e4m3) (r : Fin 256) (d : Fin 128) :
    k0_pay6 x a kc (ix3 r (Fin.last 8192) d) = code (x (ix3 r 0 d)) (a (ix3 r 0 0)) := by
  rw [keys]
  exact dif_neg (lt_irrefl 8192)

end Cert.ReferenceIdeal.Body
-- ==== Proof.RefArrays.lean ====
module

public import proofs.«01_k».proof.Proof.Gen.ReferenceIdeal.Frame
public import proofs.«01_k».proof.Proof.Softmax
public import Idealize.ShloMosaic.Lib.StableHlo.ReadAt
public import Idealize.ShloMosaic.Lib.Pointwise
public import Idealize.ShloMosaic.Lib.Pipeline.ValueKit

/-! # The arrays that the reference's body reads, element by element -/

@[expose] public section

set_option maxRecDepth 16384

noncomputable section

namespace Cert.ReferenceIdeal.Arrays

open Idealize.ShloMosaic Idealize.ShloMosaic.TcCoe Cert.ReferenceIdeal Cert.ReferenceIdeal.Gen
open Cert.Softmax (inverse)

variable (m : (ℓ : Loc nD τ sig) → Buf (Elt Ideal) ℓ) (c : Dev nD)

/-- The table of powers of two, as each scale's inverse has it. -/
def powersK (x : Fin 255) : EReal := Ideal.ofBits .f32 (lit0 (S255.rowMajor (ix1 x)))

def powersV (x : Fin 255) : EReal := Ideal.ofBits .f32 (lit1 (S255.rowMajor (ix1 x)))

/-- The queries. -/
theorem q_at (r : Fin 256) (j : Fin 16) (d : Fin 128) :
    V m c main_v2 (ix3 r j d) = m ((c : Thread nD τ).loc main_arg0) (ix3 ⟨(r : ℕ) / 4, by omega⟩ 0 ⟨((r : ℕ) % 4 * 16 + j) * 128 + d, by omega⟩) := by
  unfold V hostOps0 hostOps0_1 hostOps0_2 hostOps0_3 hostOps0_4 hostOps0_5 hostOps0_6 hostOps0_7 hostOps0_8
  simp only [List.flatten_cons, List.flatten_nil, List.cons_append, List.nil_append, List.append_nil]
  after_reads_at
  exact congrArg (fun i => m ((c : Thread nD τ).loc main_arg0) (ix3 _ 0 i)) (Fin.ext (by dsimp only; omega))

/-- The new keys. -/
theorem kn_at (r : Fin 256) (d : Fin 128) :
    V m c main_v4 (ix3 r 0 d) = m ((c : Thread nD τ).loc main_arg1) (ix4 ⟨(r : ℕ) / 4, by omega⟩ 0 ⟨(r : ℕ) % 4, by omega⟩ d) := by
  unfold V hostOps0 hostOps0_1 hostOps0_2 hostOps0_3 hostOps0_4 hostOps0_5 hostOps0_6 hostOps0_7 hostOps0_8
  simp only [List.flatten_cons, List.flatten_nil, List.cons_append, List.nil_append, List.append_nil]
  after_reads_at

/-- The new values. -/
theorem vn_at (r : Fin 256) (d : Fin 128) :
    V m c main_v6 (ix3 r 0 d) = m ((c : Thread nD τ).loc main_arg2) (ix4 ⟨(r : ℕ) / 4, by omega⟩ 0 ⟨(r : ℕ) % 4, by omega⟩ d) := by
  unfold V hostOps0 hostOps0_1 hostOps0_2 hostOps0_3 hostOps0_4 hostOps0_5 hostOps0_6 hostOps0_7 hostOps0_8
  simp only [List.flatten_cons, List.flatten_nil, List.cons_append, List.nil_append, List.append_nil]
  after_reads_at

/-- The cached keys. -/
theorem k_at (r : Fin 256) (t : Fin 8192) (d : Fin 128) :
    V m c main_v8 (ix3 r t d) = m ((c : Thread nD τ).loc main_arg3) (ix4 ⟨(r : ℕ) / 4, by omega⟩ t ⟨(r : ℕ) % 4, by omega⟩ d) := by
  unfold V hostOps0 hostOps0_1 hostOps0_2 hostOps0_3 hostOps0_4 hostOps0_5 hostOps0_6 hostOps0_7 hostOps0_8
  simp only [List.flatten_cons, List.flatten_nil, List.cons_append, List.nil_append, List.append_nil]
  after_reads_at

/-- The cached values. -/
theorem v_at (r : Fin 256) (t : Fin 8192) (d : Fin 128) :
    V m c main_v10 (ix3 r t d) = m ((c : Thread nD τ).loc main_arg5) (ix4 ⟨(r : ℕ) / 4, by omega⟩ t ⟨(r : ℕ) % 4, by omega⟩ d) := by
  unfold V hostOps0 hostOps0_1 hostOps0_2 hostOps0_3 hostOps0_4 hostOps0_5 hostOps0_6 hostOps0_7 hostOps0_8
  simp only [List.flatten_cons, List.flatten_nil, List.cons_append, List.nil_append, List.append_nil]
  after_reads_at

/-- The keys' inverse scale. -/
theorem ki_at (r : Fin 256) :
    V m c main_v31 (ix3 r 0 0) = inverse powersK (m ((c : Thread nD τ).loc main_arg4) (ix1 ⟨(r : ℕ) % 4, by omega⟩)) := by
  unfold V hostOps0 hostOps0_1 hostOps0_2 hostOps0_3 hostOps0_4 hostOps0_5 hostOps0_6 hostOps0_7 hostOps0_8
  simp only [List.flatten_cons, List.flatten_nil, List.cons_append, List.nil_append, List.append_nil]
  after_reads_at
  rfl

/-- The values' inverse scale. -/
theorem vi_at (r : Fin 256) :
    V m c main_v52 (ix3 r 0 0) = inverse powersV (m ((c : Thread nD τ).loc main_arg6) (ix1 ⟨(r : ℕ) % 4, by omega⟩)) := by
  unfold V hostOps0 hostOps0_1 hostOps0_2 hostOps0_3 hostOps0_4 hostOps0_5 hostOps0_6 hostOps0_7 hostOps0_8
  simp only [List.flatten_cons, List.flatten_nil, List.cons_append, List.nil_append, List.append_nil]
  after_reads_at
  rfl

/-- The keys' scale. -/
theorem ks_at (r : Fin 256) :
    V m c main_v57 (ix3 r 0 0) = m ((c : Thread nD τ).loc main_arg4) (ix1 ⟨(r : ℕ) % 4, by omega⟩) := by
  unfold V hostOps0 hostOps0_1 hostOps0_2 hostOps0_3 hostOps0_4 hostOps0_5 hostOps0_6 hostOps0_7 hostOps0_8
  simp only [List.flatten_cons, List.flatten_nil, List.cons_append, List.nil_append, List.append_nil]
  after_reads_at

/-- The values' scale. -/
theorem vs_at (r : Fin 256) :
    V m c main_v62 (ix3 r 0 0) = m ((c : Thread nD τ).loc main_arg6) (ix1 ⟨(r : ℕ) % 4, by omega⟩) := by
  unfold V hostOps0 hostOps0_1 hostOps0_2 hostOps0_3 hostOps0_4 hostOps0_5 hostOps0_6 hostOps0_7 hostOps0_8
  simp only [List.flatten_cons, List.flatten_nil, List.cons_append, List.nil_append, List.append_nil]
  after_reads_at

end Cert.ReferenceIdeal.Arrays
-- ==== Proof.RefFinal.lean ====
module

public import proofs.«01_k».proof.Proof.Gen.ReferenceIdeal.Frame
public import Idealize.ShloMosaic.Lib.Pipeline.Value
public import proofs.«01_k».proof.Proof.RefBody
public import proofs.«01_k».proof.Proof.RefArrays
public import proofs.«01_k».proof.Proof.Results

/-! # The reference's arrays after the run -/

@[expose] public section

set_option maxRecDepth 16384

noncomputable section

namespace Cert.ReferenceIdeal.Final

open Idealize.ShloMosaic Idealize.ShloMosaic.TcCoe Idealize.SL.Sem Cert.ReferenceIdeal Cert.ReferenceIdeal.Gen
open Cert.Softmax (code inverse attn)
open Cert.ReferenceIdeal.Arrays
open Cert.Results

/-- A run ends with each output array as its window leaves it, and with the arguments unchanged. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v63_0) = (dats m 0 c).arrAt 9 cfg0.N
      ∧ r.2.mem ((c : Thread nD τ).loc main_v63_1) = (dats m 0 c).arrAt 10 cfg0.N
      ∧ r.2.mem ((c : Thread nD τ).loc main_v63_2) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ⟨(h c).1 9, (h c).1 10, (h c).1 11, ?_, ?_, ?_, ?_, ?_, ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact ((h c).2 main_arg5 (Pipeline.mem_restRefs_of main_arg5 (by decide) (by decide))).trans (V_main_arg5 m c)
  · exact ((h c).2 main_arg6 (Pipeline.mem_restRefs_of main_arg6 (by decide) (by decide))).trans (V_main_arg6 m c)

variable (m : (ℓ : Loc nD τ sig) → Buf (Elt Ideal) ℓ) (c : Dev nD)

/-- Every window's one block starts at the array's start. -/
theorem idx : ∀ t : Fin cfg0.N,
    win0_0.index t = ![0, 0, 0]
      ∧ win0_1.index t = ![0, 0, 0]
      ∧ win0_2.index t = ![0, 0, 0]
      ∧ win0_3.index t = ![0, 0, 0]
      ∧ win0_4.index t = ![0, 0, 0]
      ∧ win0_5.index t = ![0, 0, 0]
      ∧ win0_6.index t = ![0, 0, 0]
      ∧ win0_7.index t = ![0, 0, 0]
      ∧ win0_8.index t = ![0, 0, 0]
      ∧ win0_9.index t = ![0, 0, 0]
      ∧ win0_10.index t = ![0, 0, 0]
      ∧ win0_11.index t = ![0, 0, 0] :=
  (by decide +kernel : ∀ t : Fin grid0.N, _)

/-- The queries. -/
theorem q_blk (t : Fin cfg0.N) (r : Fin 256) (j : Fin 16) (d : Fin 128) : iblk m c 0 t (ix3 r j d) = V m c main_v2 (ix3 r j d) := by
  blk_ext [iblk, idx t]

/-- The new keys. -/
theorem kn_blk (t : Fin cfg0.N) (r : Fin 256) (d : Fin 128) : iblk m c 1 t (ix3 r 0 d) = V m c main_v4 (ix3 r 0 d) := by
  blk_ext [iblk, idx t]

/-- The new values. -/
theorem vn_blk (t : Fin cfg0.N) (r : Fin 256) (d : Fin 128) : iblk m c 2 t (ix3 r 0 d) = V m c main_v6 (ix3 r 0 d) := by
  blk_ext [iblk, idx t]

/-- The cached keys. -/
theorem k_blk (t : Fin cfg0.N) (r : Fin 256) (j : Fin 8192) (d : Fin 128) : iblk m c 3 t (ix3 r j d) = V m c main_v8 (ix3 r j d) := by
  blk_ext [iblk, idx t]

/-- The cached values. -/
theorem v_blk (t : Fin cfg0.N) (r : Fin 256) (j : Fin 8192) (d : Fin 128) : iblk m c 4 t (ix3 r j d) = V m c main_v10 (ix3 r j d) := by
  blk_ext [iblk, idx t]

/-- The keys' inverse scales. -/
theorem ki_blk (t : Fin cfg0.N) (r : Fin 256) : iblk m c 5 t (ix3 r 0 0) = V m c main_v31 (ix3 r 0 0) := by
  blk_ext [iblk, idx t]

/-- The values' inverse scales. -/
theorem vi_blk (t : Fin cfg0.N) (r : Fin 256) : iblk m c 6 t (ix3 r 0 0) = V m c main_v52 (ix3 r 0 0) := by
  blk_ext [iblk, idx t]

/-- The keys' scales. -/
theorem ks_blk (t : Fin cfg0.N) (r : Fin 256) : iblk m c 7 t (ix3 r 0 0) = V m c main_v57 (ix3 r 0 0) := by
  blk_ext [iblk, idx t]

/-- The values' scales. -/
theorem vs_blk (t : Fin cfg0.N) (r : Fin 256) : iblk m c 8 t (ix3 r 0 0) = V m c main_v62 (ix3 r 0 0) := by
  blk_ext [iblk, idx t]

/-- An index by its coordinates. -/
theorem ix_three {a b d : ℕ} (y : (⟨3, ![a, b, d]⟩ : Shape).Idx) : ∃ (i : Fin a) (j : Fin b) (k : Fin d), y = ix3 i j k :=
  ⟨y 0, y 1, y 2, by
    funext x
    match x with
    | ⟨0, _⟩ => rfl
    | ⟨1, _⟩ => rfl
    | ⟨2, _⟩ => rfl⟩

/-- The row of batch `b` and group `g`. -/
def row (b : Fin 64) (g : Fin 4) : Fin 256 := ⟨(b : ℕ) * 4 + g, by omega⟩

/-- A row's batch. -/
theorem row_div (b : Fin 64) (g : Fin 4) (h : ((row b g : Fin 256) : ℕ) / 4 < 64) : (⟨(row b g : ℕ) / 4, h⟩ : Fin 64) = b :=
  Fin.ext (by show ((b : ℕ) * 4 + g) / 4 = b; omega)

/-- A row's group. -/
theorem row_mod (b : Fin 64) (g : Fin 4) (h : ((row b g : Fin 256) : ℕ) % 4 < 4) : (⟨(row b g : ℕ) % 4, h⟩ : Fin 4) = g :=
  Fin.ext (by show ((b : ℕ) * 4 + g) % 4 = g; omega)

/-- A new key's code. -/
theorem code_k (t : Fin cfg0.N) (b : Fin 64) (g : Fin 4) (d : Fin 128) :
    code (iblk m c 1 t (ix3 (row b g) 0 d)) (iblk m c 5 t (ix3 (row b g) 0 0))
      = codeAt powersK (m ((c : Thread nD τ).loc main_arg1)) (m ((c : Thread nD τ).loc main_arg4)) b g d := by
  rw [kn_blk, ki_blk, kn_at, ki_at, row_div, row_mod]
  rfl

/-- A new value's code. -/
theorem code_v (t : Fin cfg0.N) (b : Fin 64) (g : Fin 4) (d : Fin 128) :
    code (iblk m c 2 t (ix3 (row b g) 0 d)) (iblk m c 6 t (ix3 (row b g) 0 0))
      = codeAt powersV (m ((c : Thread nD τ).loc main_arg2)) (m ((c : Thread nD τ).loc main_arg6)) b g d := by
  rw [vn_blk, vi_blk, vn_at, vi_at, row_div, row_mod]
  rfl

/-- A group's scale for the keys. -/
theorem scale_k (t : Fin cfg0.N) (b : Fin 64) (g : Fin 4) :
    iblk m c 7 t (ix3 (row b g) 0 0) = m ((c : Thread nD τ).loc main_arg4) (ix1 g) := by
  rw [ks_blk, ks_at, row_mod]

/-- A group's scale for the values. -/
theorem scale_v (t : Fin cfg0.N) (b : Fin 64) (g : Fin 4) :
    iblk m c 8 t (ix3 (row b g) 0 0) = m ((c : Thread nD τ).loc main_arg6) (ix1 g) := by
  rw [vs_blk, vs_at, row_mod]

/-- The new keys' codes. -/
theorem codes_k : (dats m 0 c).arrAt 10 cfg0.N
    = codes powersK (m ((c : Thread nD τ).loc main_arg1)) (m ((c : Thread nD τ).loc main_arg4)) := by
  refine (dats m 0 c).arrAt_eq_of_after_last 10 t0_0 (by decide +kernel) _ fun j => ?_
  blk_simp
  rw [after0_10]
  frame_out
  obtain ⟨b, g, d, rfl⟩ := ix_three j
  rw [Body.out_k _ _ b g d (row b g) rfl]
  exact code_k m c t0_0 b g d

/-- The new values' codes. -/
theorem codes_v : (dats m 0 c).arrAt 11 cfg0.N
    = codes powersV (m ((c : Thread nD τ).loc main_arg2)) (m ((c : Thread nD τ).loc main_arg6)) := by
  refine (dats m 0 c).arrAt_eq_of_after_last 11 t0_0 (by decide +kernel) _ fun j => ?_
  blk_simp
  rw [after0_11]
  frame_out
  obtain ⟨b, g, d, rfl⟩ := ix_three j
  rw [Body.out_v _ _ b g d (row b g) rfl]
  exact code_v m c t0_0 b g d

/-- The query of a head's row. -/
theorem q_row (t : Fin cfg0.N) (b h : Fin 64) (g : Fin 4) (hg : g = ⟨(h : ℕ) / 16, by omega⟩) (e : Fin 128) :
    iblk m c 0 t (ix3 (row b g) ⟨(h : ℕ) % 16, by omega⟩ e)
      = m ((c : Thread nD τ).loc main_arg0) (ix3 b 0 ⟨(h : ℕ) * 128 + e, by omega⟩) := by
  rw [q_blk, q_at, row_div]
  refine congrArg (fun i => m ((c : Thread nD τ).loc main_arg0) (ix3 b 0 i)) (Fin.ext ?_)
  subst hg
  show (((b : ℕ) * 4 + (h : ℕ) / 16) % 4 * 16 + (h : ℕ) % 16) * 128 + (e : ℕ) = (h : ℕ) * 128 + e
  omega

/-- The attention output, where every scale is finite and not negative, and the two tables are one. -/
theorem y (hP : powersV = powersK) (k0 : ∀ g : Fin 4, (0 : EReal) ≤ m ((c : Thread nD τ).loc main_arg4) (ix1 g))
    (k1 : ∀ g : Fin 4, (show EReal from m ((c : Thread nD τ).loc main_arg4) (ix1 g)) ≠ ⊤)
    (v0 : ∀ g : Fin 4, (0 : EReal) ≤ m ((c : Thread nD τ).loc main_arg6) (ix1 g))
    (v1 : ∀ g : Fin 4, (show EReal from m ((c : Thread nD τ).loc main_arg6) (ix1 g)) ≠ ⊤) :
    (dats m 0 c).arrAt 9 cfg0.N
      = ys powersK (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_after_last 9 t0_0 (by decide +kernel) _ fun j => ?_
  blk_simp
  rw [after0_9]
  frame_out
  obtain ⟨b, h, d, rfl⟩ := ix_three j
  obtain ⟨g, hg⟩ : ∃ g : Fin 4, g = ⟨(h : ℕ) / 16, by omega⟩ := ⟨_, rfl⟩
  have hr : row b g = ⟨(b : ℕ) * 4 + (h : ℕ) / 16, by omega⟩ := Fin.ext (by subst hg; rfl)
  have ek := scale_k m c t0_0 b g
  have ev := scale_v m c t0_0 b g
  rw [Body.attend _ _ _ _ _ _ b h d (row b g) _ hr rfl (ek ▸ k0 g) (ek ▸ k1 g) (ev ▸ v0 g) (ev ▸ v1 g)]
  show _ = yAt powersK _ _ _ _ _ _ _ b h d
  unfold yAt
  rw [← hg]
  refine attn_congr (fun e => q_row m c t0_0 b h g hg e) (fun t e => ?_) (fun t => ?_) (fun e => ?_) ?_ ?_ ev
  · rw [Body.keys_cast, k_blk, k_at, row_div, row_mod]
  · rw [v_blk, v_at, row_div, row_mod]
  · rw [Body.keys_last]
    exact code_k m c t0_0 b g e
  · rw [Body.code_v, code_v, hP]
  · exact congrArg (fun a : EReal => a * Ideal.ofBits .f32 0x3DB504F3#32) ek

end Cert.ReferenceIdeal.Final

end
-- ==== Proof.Scales.lean ====
module

public import proofs.«01_k».proof.Pre_scales_nonneg
public import Idealize.ShloMosaic.Lib.Pointwise
public import Idealize.ShloMosaic.Lib.ReduceAll

/-! # What the precondition says of the scales -/

@[expose] public section

noncomputable section

namespace Cert.Scales

open Idealize.ShloMosaic Cert.Pre_scales_nonneg Cert.Pre_scales_nonneg.Facts

/-- A bit of both comparisons says that the number is finite and not negative. -/
theorem of_bits (x : EReal)
    (h : IntOp.andi (BitVec.ofBool (decide (Ideal.ofBits .f32 0x00000000#32 ≤ x)))
      (BitVec.ofBool (decide (x < Ideal.ofBits .f32 0x7F800000#32))) = 1#1) : 0 ≤ x ∧ x ≠ ⊤ := by
  have top : Ideal.ofBits .f32 0x7F800000#32 = ⊤ := by simp [Ideal.ofBits, Ideal.ieee]
  have zero : Ideal.ofBits .f32 0x00000000#32 = 0 := by simp [Ideal.ofBits, Ideal.ieee]
  rw [top, zero] at h
  by_cases h1 : (0 : EReal) ≤ x <;> by_cases h2 : x < ⊤
  · exact ⟨h1, h2.ne⟩
  all_goals
    exfalso
    simp [h1, h2, IntOp.andi] at h

variable [Facts]

/-- The precondition's test of one array of scales. -/
theorem of_reduce (x : FVec Ideal S4 .f32) (j : S_.Idx)
    (h : Host.reduce IntOp.andi
      (andi (cmpf .oge x (broadcastInDim S4 ![] bcast_S_S4 (constant S_ .f32 0x00000000#32)))
        (cmpf .olt x (broadcastInDim S4 ![] bcast_S_S4 (constant S_ .f32 0x7F800000#32))))
      (constantI S_ 1 1#1) reducesTo_S4_S_d0 h_S_ j = 1#1) (g : Fin 4) :
    (0 : EReal) ≤ x (ix1 g) ∧ (show EReal from x (ix1 g)) ≠ ⊤ := by
  have : Subsingleton S_.Idx := ⟨fun a b => funext fun i => i.elim0⟩
  exact of_bits _ (Host.reduce_andi_all _ _ _ _ j h (ix1 g))

/-- Under the precondition every scale is finite and not negative. -/
theorem of_pre (q : FVec Ideal S64x1x8192 .bf16) (kn vn : FVec Ideal S64x1x4x128 .bf16) (k : FVec Ideal S64x8192x4x128 .fp8e4m3)
    (ks : FVec Ideal S4 .f32) (v : FVec Ideal S64x8192x4x128 .fp8e4m3) (vs : FVec Ideal S4 .f32)
    (h : fn q kn vn k ks v vs = fun _ => 1#1) (g : Fin 4) :
    ((0 : EReal) ≤ ks (ix1 g) ∧ (show EReal from ks (ix1 g)) ≠ ⊤) ∧ ((0 : EReal) ≤ vs (ix1 g) ∧ (show EReal from vs (ix1 g)) ≠ ⊤) := by
  have both : ∀ a b : BitVec 1, IntOp.andi a b = 1#1 → a = 1#1 ∧ b = 1#1 := by decide
  have e := both _ _ (congrFun h ix0)
  exact ⟨of_reduce ks _ e.1 g, of_reduce vs _ e.2 g⟩

end Cert.Scales

end
-- ==== Proof.Algebraic.lean ====
module

public import proofs.«01_k».proof.Defs
public import proofs.«01_k».proof.Proof.Gen.Pre_scales_nonneg
public import proofs.«01_k».proof.Proof.KernelFinal
public import proofs.«01_k».proof.Proof.RefFinal
public import proofs.«01_k».proof.Proof.Scales

/-! # The kernel and the reference return the same arrays -/

@[expose] public section

noncomputable section

namespace Cert.Algebraic

open Idealize.ShloMosaic Idealize.ShloMosaic.TcCoe Idealize.SL.Sem
open Cert.Results

/-- The kernel's table and the reference's for the keys are one. -/
theorem table_k : ReferenceIdeal.Arrays.powersK = KernelIdeal.Arrays.powers := rfl

/-- The kernel's table and the reference's for the values are one. -/
theorem table_v : ReferenceIdeal.Arrays.powersV = KernelIdeal.Arrays.powers := by
  have h : ReferenceIdeal.lit1 = KernelIdeal.lit0 := by
    funext i
    revert i
    decide +kernel
  funext x
  unfold ReferenceIdeal.Arrays.powersV KernelIdeal.Arrays.powers
  rw [h]

section Arrays

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The codes of the new keys. -/
theorem codes_k (e1 : m' ((c : Thread ReferenceIdeal.nD ReferenceIdeal.τ).loc ReferenceIdeal.main_arg1) = m ((c : Thread KernelIdeal.nD KernelIdeal.τ).loc KernelIdeal.main_arg1))
    (e4 : m' ((c : Thread ReferenceIdeal.nD ReferenceIdeal.τ).loc ReferenceIdeal.main_arg4) = m ((c : Thread KernelIdeal.nD KernelIdeal.τ).loc KernelIdeal.main_arg4)) :
    (ReferenceIdeal.Gen.dats m' 0 c).arrAt 10 ReferenceIdeal.cfg0.N = (KernelIdeal.Gen.dats m 0 c).arrAt 8 KernelIdeal.cfg0.N :=
  (ReferenceIdeal.Final.codes_k m' c).trans ((codes_congr table_k e1 e4).trans (KernelIdeal.Final.codes_k m c).symm)

/-- The codes of the new values. -/
theorem codes_v (e2 : m' ((c : Thread ReferenceIdeal.nD ReferenceIdeal.τ).loc ReferenceIdeal.main_arg2) = m ((c : Thread KernelIdeal.nD KernelIdeal.τ).loc KernelIdeal.main_arg2))
    (e6 : m' ((c : Thread ReferenceIdeal.nD ReferenceIdeal.τ).loc ReferenceIdeal.main_arg6) = m ((c : Thread KernelIdeal.nD KernelIdeal.τ).loc KernelIdeal.main_arg6)) :
    (ReferenceIdeal.Gen.dats m' 0 c).arrAt 11 ReferenceIdeal.cfg0.N = (KernelIdeal.Gen.dats m 0 c).arrAt 9 KernelIdeal.cfg0.N :=
  (ReferenceIdeal.Final.codes_v m' c).trans ((codes_congr table_v e2 e6).trans (KernelIdeal.Final.codes_v m c).symm)

/-- The attention outputs. -/
theorem y (e0 : m' ((c : Thread ReferenceIdeal.nD ReferenceIdeal.τ).loc ReferenceIdeal.main_arg0) = m ((c : Thread KernelIdeal.nD KernelIdeal.τ).loc KernelIdeal.main_arg0))
    (e1 : m' ((c : Thread ReferenceIdeal.nD ReferenceIdeal.τ).loc ReferenceIdeal.main_arg1) = m ((c : Thread KernelIdeal.nD KernelIdeal.τ).loc KernelIdeal.main_arg1))
    (e2 : m' ((c : Thread ReferenceIdeal.nD ReferenceIdeal.τ).loc ReferenceIdeal.main_arg2) = m ((c : Thread KernelIdeal.nD KernelIdeal.τ).loc KernelIdeal.main_arg2))
    (e3 : m' ((c : Thread ReferenceIdeal.nD ReferenceIdeal.τ).loc ReferenceIdeal.main_arg3) = m ((c : Thread KernelIdeal.nD KernelIdeal.τ).loc KernelIdeal.main_arg3))
    (e4 : m' ((c : Thread ReferenceIdeal.nD ReferenceIdeal.τ).loc ReferenceIdeal.main_arg4) = m ((c : Thread KernelIdeal.nD KernelIdeal.τ).loc KernelIdeal.main_arg4))
    (e5 : m' ((c : Thread ReferenceIdeal.nD ReferenceIdeal.τ).loc ReferenceIdeal.main_arg5) = m ((c : Thread KernelIdeal.nD KernelIdeal.τ).loc KernelIdeal.main_arg5))
    (e6 : m' ((c : Thread ReferenceIdeal.nD ReferenceIdeal.τ).loc ReferenceIdeal.main_arg6) = m ((c : Thread KernelIdeal.nD KernelIdeal.τ).loc KernelIdeal.main_arg6))
    (k0 : ∀ g : Fin 4, (0 : EReal) ≤ m' ((c : Thread ReferenceIdeal.nD ReferenceIdeal.τ).loc ReferenceIdeal.main_arg4) (ix1 g)) (k1 : ∀ g : Fin 4, (show EReal from m' ((c : Thread ReferenceIdeal.nD ReferenceIdeal.τ).loc ReferenceIdeal.main_arg4) (ix1 g)) ≠ ⊤)
    (v0 : ∀ g : Fin 4, (0 : EReal) ≤ m' ((c : Thread ReferenceIdeal.nD ReferenceIdeal.τ).loc ReferenceIdeal.main_arg6) (ix1 g)) (v1 : ∀ g : Fin 4, (show EReal from m' ((c : Thread ReferenceIdeal.nD ReferenceIdeal.τ).loc ReferenceIdeal.main_arg6) (ix1 g)) ≠ ⊤) :
    (ReferenceIdeal.Gen.dats m' 0 c).arrAt 9 ReferenceIdeal.cfg0.N = (KernelIdeal.Gen.dats m 0 c).arrAt 7 KernelIdeal.cfg0.N :=
  (ReferenceIdeal.Final.y m' c (table_v.trans table_k.symm) k0 k1 v0 v1).trans
    ((ys_congr table_k e0 e1 e2 e3 e4 e5 e6).trans (KernelIdeal.Final.y m c).symm)

end Arrays

theorem claim : Cert.algebraic_KernelIdeal_ReferenceIdeal_pre_scales_nonneg
    (hKernelIdeal := Cert.KernelIdeal.Gen.facts) (hReferenceIdeal := Cert.ReferenceIdeal.Gen.facts)
    (hPre_scales_nonneg := Cert.Pre_scales_nonneg.Gen.facts) := by
  intro m g m' g' hpre hargs
  refine ⟨fun c => (KernelIdeal.Gen.dats m 0 c).arrAt 7 KernelIdeal.cfg0.N,
    fun c => (KernelIdeal.Gen.dats m 0 c).arrAt 8 KernelIdeal.cfg0.N,
    fun c => m ((c : Thread KernelIdeal.nD KernelIdeal.τ).loc KernelIdeal.main_arg4),
    fun c => (KernelIdeal.Gen.dats m 0 c).arrAt 9 KernelIdeal.cfg0.N,
    fun c => m ((c : Thread KernelIdeal.nD KernelIdeal.τ).loc KernelIdeal.main_arg6), ?_, ?_⟩
  · refine (θ_run KernelIdeal.defs _ _).mono (fun r h c => ?_) (KernelIdeal.Value.run_blocks m g)
    obtain ⟨h0, h1, h2, a0, a1, a2, a3, a4, a5, a6⟩ := h c
    exact ⟨h0, h1, a4, h2, a6, a0, a1, a2, a3, a4, a5, a6⟩
  · refine (θ_run ReferenceIdeal.defs _ _).mono (fun r h c => ?_) (ReferenceIdeal.Final.run m' g')
    obtain ⟨h0, h1, h2, a0, a1, a2, a3, a4, a5, a6⟩ := h c
    obtain ⟨e0, e1, e2, e3, e4, e5, e6⟩ := hargs c
    have s := Scales.of_pre _ _ _ _ _ _ _ (hpre c)
    exact ⟨h0.trans (y m m' c e0 e1 e2 e3 e4 e5 e6 (fun g => e4 ▸ (s g).1.1) (fun g => e4 ▸ (s g).1.2)
        (fun g => e6 ▸ (s g).2.1) (fun g => e6 ▸ (s g).2.2)), h1.trans (codes_k m m' c e1 e4), a4.trans e4,
      h2.trans (codes_v m m' c e2 e6), a6.trans e6, a0, a1, a2, a3, a4, a5, a6⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_nonneg
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_scales_nonneg.Gen.facts,
  fun m g _ => Cert.Kernel.Gen.frame m g, fun m g _ => Cert.KernelIdeal.Gen.frame m g,
  fun m g _ => Cert.KernelIdeal.Gen.frame m g, fun m g _ => Cert.ReferenceIdeal.Gen.frame m g,
  fun m g _ => Cert.ReferenceIdeal.Gen.frame m g, trivial, Cert.Algebraic.claim⟩

end Cert.Proof

end
